-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S10000x1x256 : Shape := ⟨3, ![10000, 1, 256]⟩
abbrev S10000x16x1x256 : Shape := ⟨4, ![10000, 16, 1, 256]⟩
abbrev S128x256 : Shape := ⟨2, ![128, 256]⟩
abbrev S128x128 : Shape := ⟨2, ![128, 128]⟩
abbrev S1 : Shape := ⟨1, ![1]⟩
abbrev S40x128 : Shape := ⟨2, ![40, 128]⟩
abbrev S40 : Shape := ⟨1, ![40]⟩
abbrev S_ : Shape := ⟨0, ![]⟩

class Facts : Prop where
  bcast_S_S10000x1x256 : S_.BroadcastsInDim S10000x1x256 (![] : Fin 0 → Fin S10000x1x256.rank)
  bcast_S_S10000x16x1x256 : S_.BroadcastsInDim S10000x16x1x256 (![] : Fin 0 → Fin S10000x16x1x256.rank)
  bcast_S_S128x256 : S_.BroadcastsInDim S128x256 (![] : Fin 0 → Fin S128x256.rank)
  bcast_S_S128x128 : S_.BroadcastsInDim S128x128 (![] : Fin 0 → Fin S128x128.rank)
  bcast_S_S1 : S_.BroadcastsInDim S1 (![] : Fin 0 → Fin S1.rank)

variable [Facts]

def fn_part1 {F : FTy → Type} [FloatOps F] (main_arg6 : FVec F S1 .f32) (main_arg7 : FVec F S1 .f32) (main_v2 : IVec S10000x1x256 1) (main_v5 : IVec S10000x16x1x256 1) (main_v8 : IVec S128x256 1) (main_v11 : IVec S128x256 1) (main_v14 : IVec S128x128 1) (main_v17 : IVec S128x128 1) : IVec S10000x1x256 1 × IVec S10000x16x1x256 1 × IVec S128x256 1 × IVec S128x256 1 × IVec S128x128 1 × IVec S128x128 1 × IVec S1 1 × IVec S1 1 :=
  let main_v18 : FVec F S1 .f32 := Host.absf main_arg6
  let main_cst_5 : FVec F S_ .f32 := constant S_ .f32 0x7F800000#32
  let main_v19 : FVec F S1 .f32 := broadcastInDim S1 ![] bcast_S_S1 main_cst_5
  let main_v20 : IVec S1 1 := cmpf .olt main_v18 main_v19
  let main_v21 : FVec F S1 .f32 := Host.absf main_arg7
  let main_cst_6 : FVec F S_ .f32 := constant S_ .f32 0x7F800000#32
  let main_v22 : FVec F S1 .f32 := broadcastInDim S1 ![] bcast_S_S1 main_cst_6
  let main_v23 : IVec S1 1 := cmpf .olt main_v21 main_v22
  (main_v2, main_v5, main_v8, main_v11, main_v14, main_v17, main_v20, main_v23)

def fn {F : FTy → Type} [FloatOps F] (main_arg0 : FVec F S10000x1x256 .f32) (main_arg1 : FVec F S10000x16x1x256 .f32) (main_arg2 : FVec F S128x256 .f32) (main_arg3 : FVec F S128x256 .f32) (main_arg4 : FVec F S128x128 .f32) (main_arg5 : FVec F S128x128 .f32) (main_arg6 : FVec F S1 .f32) (main_arg7 : FVec F S1 .f32) (main_arg8 : FVec F S1 .f32) (main_arg9 : FVec F S1 .f32) (main_arg10 : FVec F S40x128 .f32) (main_arg11 : FVec F S40 .f32) : IVec S10000x1x256 1 × IVec S10000x16x1x256 1 × IVec S128x256 1 × IVec S128x256 1 × IVec S128x128 1 × IVec S128x128 1 × IVec S1 1 × IVec S1 1 :=
  let main_v0 : FVec F S10000x1x256 .f32 := Host.absf main_arg0
  let main_cst : FVec F S_ .f32 := constant S_ .f32 0x7F800000#32
  let main_v1 : FVec F S10000x1x256 .f32 := broadcastInDim S10000x1x256 ![] bcast_S_S10000x1x256 main_cst
  let main_v2 : IVec S10000x1x256 1 := cmpf .olt main_v0 main_v1
  let main_v3 : FVec F S10000x16x1x256 .f32 := Host.absf main_arg1
  let main_cst_0 : FVec F S_ .f32 := constant S_ .f32 0x7F800000#32
  let main_v4 : FVec F S10000x16x1x256 .f32 := broadcastInDim S10000x16x1x256 ![] bcast_S_S10000x16x1x256 main_cst_0
  let main_v5 : IVec S10000x16x1x256 1 := cmpf .olt main_v3 main_v4
  let main_v6 : FVec F S128x256 .f32 := Host.absf main_arg2
  let main_cst_1 : FVec F S_ .f32 := constant S_ .f32 0x7F800000#32
  let main_v7 : FVec F S128x256 .f32 := broadcastInDim S128x256 ![] bcast_S_S128x256 main_cst_1
  let main_v8 : IVec S128x256 1 := cmpf .olt main_v6 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_v12 : FVec F S128x128 .f32 := Host.absf main_arg4
  let main_cst_3 : FVec F S_ .f32 := constant S_ .f32 0x7F800000#32
  let main_v13 : FVec F S128x128 .f32 := broadcastInDim S128x128 ![] bcast_S_S128x128 main_cst_3
  let main_v14 : IVec S128x128 1 := cmpf .olt main_v12 main_v13
  let main_v15 : FVec F S128x128 .f32 := Host.absf main_arg5
  let main_cst_4 : FVec F S_ .f32 := constant S_ .f32 0x7F800000#32
  let main_v16 : FVec F S128x128 .f32 := broadcastInDim S128x128 ![] bcast_S_S128x128 main_cst_4
  let main_v17 : IVec S128x128 1 := cmpf .olt main_v15 main_v16
  fn_part1 (F := F) main_arg6 main_arg7 main_v2 main_v5 main_v8 main_v11 main_v14 main_v17
-- ==== Kernel.lean ====
abbrev S10000x1x256 : Shape := ⟨3, ![10000, 1, 256]⟩
abbrev S10000x16x1x256 : Shape := ⟨4, ![10000, 16, 1, 256]⟩
abbrev S128x256 : Shape := ⟨2, ![128, 256]⟩
abbrev S128x128 : Shape := ⟨2, ![128, 128]⟩
abbrev S1 : Shape := ⟨1, ![1]⟩
abbrev S40x128 : Shape := ⟨2, ![40, 128]⟩
abbrev S40 : Shape := ⟨1, ![40]⟩
abbrev S10000x256 : Shape := ⟨2, ![10000, 256]⟩
abbrev S160000x256 : Shape := ⟨2, ![160000, 256]⟩
abbrev S1x1 : Shape := ⟨2, ![1, 1]⟩
abbrev S256x128 : Shape := ⟨2, ![256, 128]⟩
abbrev S128x40 : Shape := ⟨2, ![128, 40]⟩
abbrev S1x40 : Shape := ⟨2, ![1, 40]⟩
abbrev S10000x40 : Shape := ⟨2, ![10000, 40]⟩
abbrev S1000x256 : Shape := ⟨2, ![1000, 256]⟩
abbrev S16000x256 : Shape := ⟨2, ![16000, 256]⟩
abbrev S2000x40 : Shape := ⟨2, ![2000, 40]⟩
abbrev S10000x128 : Shape := ⟨2, ![10000, 128]⟩
abbrev S8x128 : Shape := ⟨2, ![8, 128]⟩
abbrev S16000x128 : Shape := ⟨2, ![16000, 128]⟩
abbrev S1000x16x128 : Shape := ⟨3, ![1000, 16, 128]⟩
abbrev S1000 : Shape := ⟨1, ![1000]⟩
abbrev S1000x1x1 : Shape := ⟨3, ![1000, 1, 1]⟩
abbrev S1000x128 : Shape := ⟨2, ![1000, 128]⟩
abbrev S1000x16x256 : Shape := ⟨3, ![1000, 16, 256]⟩
abbrev S125x8x128 : Shape := ⟨3, ![125, 8, 128]⟩
abbrev S1x8x128 : Shape := ⟨3, ![1, 8, 128]⟩
abbrev S1x1x1 : Shape := ⟨3, ![1, 1, 1]⟩
abbrev S2000x128 : Shape := ⟨2, ![2000, 128]⟩
abbrev S250x8x128 : Shape := ⟨3, ![250, 8, 128]⟩

abbrev nBuf : Space → Nat
  | .hbm => 25
  | .vmem => 19
  | .smem => 4
  | _ => 0

abbrev bufTy : (tb : Table) → Fin (tcTables nBuf tb) → BufTy
  | .hbm, ⟨0, _⟩ => ⟨S10000x1x256, .f32⟩
  | .hbm, ⟨1, _⟩ => ⟨S10000x16x1x256, .f32⟩
  | .hbm, ⟨2, _⟩ => ⟨S128x256, .f32⟩
  | .hbm, ⟨3, _⟩ => ⟨S128x256, .f32⟩
  | .hbm, ⟨4, _⟩ => ⟨S128x128, .f32⟩
  | .hbm, ⟨5, _⟩ => ⟨S128x128, .f32⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S40x128, .f32⟩
  | .hbm, ⟨11, _⟩ => ⟨S40, .f32⟩
  | .hbm, ⟨12, _⟩ => ⟨S10000x256, .f32⟩
  | .hbm, ⟨13, _⟩ => ⟨S160000x256, .f32⟩
  | .hbm, ⟨14, _⟩ => ⟨S1x1, .f32⟩
  | .hbm, ⟨15, _⟩ => ⟨S1x1, .f32⟩
  | .hbm, ⟨16, _⟩ => ⟨S1x1, .f32⟩
  | .hbm, ⟨17, _⟩ => ⟨S1x1, .f32⟩
  | .hbm, ⟨18, _⟩ => ⟨S256x128, .f32⟩
  | .hbm, ⟨19, _⟩ => ⟨S256x128, .f32⟩
  | .hbm, ⟨20, _⟩ => ⟨S128x128, .f32⟩
  | .hbm, ⟨21, _⟩ => ⟨S128x128, .f32⟩
  | .hbm, ⟨22, _⟩ => ⟨S128x40, .f32⟩
  | .hbm, ⟨23, _⟩ => ⟨S1x40, .f32⟩
  | .hbm, ⟨24, _⟩ => ⟨S10000x40, .f32⟩
  | .local _ .vmem, ⟨0, _⟩ => ⟨S1000x256, .f32⟩
  | .local _ .vmem, ⟨1, _⟩ => ⟨S1000x256, .f32⟩
  | .local _ .vmem, ⟨2, _⟩ => ⟨S16000x256, .f32⟩
  | .local _ .vmem, ⟨3, _⟩ => ⟨S16000x256, .f32⟩
  | .local _ .vmem, ⟨4, _⟩ => ⟨S256x128, .f32⟩
  | .local _ .vmem, ⟨5, _⟩ => ⟨S256x128, .f32⟩
  | .local _ .vmem, ⟨6, _⟩ => ⟨S128x128, .f32⟩
  | .local _ .vmem, ⟨7, _⟩ => ⟨S128x128, .f32⟩
  | .local _ .vmem, ⟨8, _⟩ => ⟨S128x40, .f32⟩
  | .local _ .vmem, ⟨9, _⟩ => ⟨S1x40, .f32⟩
  | .local _ .vmem, ⟨10, _⟩ => ⟨S2000x40, .f32⟩
  | .local _ .vmem, ⟨11, _⟩ => ⟨S2000x40, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S8x128, .f32⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | _, _ => ⟨S10000x1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v0 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg12_0 : Ref sig .tc := ⟨.vmem, 10, rfl⟩
abbrev cc0_stg12_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_stg8_0 : Ref sig .tc := ⟨.smem, 0, rfl⟩
abbrev cc0_stg9_0 : Ref sig .tc := ⟨.smem, 1, rfl⟩
abbrev cc0_stg10_0 : Ref sig .tc := ⟨.smem, 2, rfl⟩
abbrev cc0_stg11_0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![20], ![false]⟩

def k0_cond1 (i : grid0.Coords) : BitVec 1 :=
  let arg0 : BitVec 32 := BitVec.ofNat 32 (i 0).val
  let c10_i32 : BitVec 32 := 10#32
  let v2 : BitVec 1 := Scalar.cmpi .slt arg0 c10_i32
  let v3 : BitVec 32 := Scalar.extui v2
  let c0_i32 : BitVec 32 := 0#32
  let v4 : BitVec 1 := Scalar.cmpi .ne v3 c0_i32
  v4

def k0_off1 (i : grid0.Coords) : Fin 2 → Nat :=
  let arg0 : BitVec 32 := BitVec.ofNat 32 (i 0).val
  let c1000_i32 : BitVec 32 := 1000#32
  let v46 : BitVec 32 := Scalar.muli arg0 c1000_i32
  let v47 : Index := Scalar.indexCast v46
  let c0_19 : Index := 0#32
  ![v47.toNat, 0]
def k0_cond4 (i : grid0.Coords) : BitVec 1 :=
  let arg0 : BitVec 32 := BitVec.ofNat 32 (i 0).val
  let c10_i32_3 : BitVec 32 := 10#32
  let v5 : BitVec 1 := Scalar.cmpi .sge arg0 c10_i32_3
  let c15_i32 : BitVec 32 := 15#32
  let v6 : BitVec 1 := Scalar.cmpi .slt arg0 c15_i32
  let v7 : BitVec 1 := Scalar.andi v5 v6
  let v8 : BitVec 32 := Scalar.extui v7
  let c0_i32_4 : BitVec 32 := 0#32
  let v9 : BitVec 1 := Scalar.cmpi .ne v8 c0_i32_4
  v9

def k0_off2 (i : grid0.Coords) : Fin 2 → Nat :=
  let arg0 : BitVec 32 := BitVec.ofNat 32 (i 0).val
  let c10_i32_7 : BitVec 32 := 10#32
  let v13 : BitVec 32 := Scalar.subi arg0 c10_i32_7
  let c2000_i32 : BitVec 32 := 2000#32
  let v28 : BitVec 32 := Scalar.muli v13 c2000_i32
  let v29 : Index := Scalar.indexCast v28
  let c0_15 : Index := 0#32
  ![v29.toNat, 0]
def k0_cond7 (i : grid0.Coords) : BitVec 1 :=
  let arg0 : BitVec 32 := BitVec.ofNat 32 (i 0).val
  let c15_i32_5 : BitVec 32 := 15#32
  let v10 : BitVec 1 := Scalar.cmpi .sge arg0 c15_i32_5
  let v11 : BitVec 32 := Scalar.extui v10
  let c0_i32_6 : BitVec 32 := 0#32
  let v12 : BitVec 1 := Scalar.cmpi .ne v11 c0_i32_6
  v12

def k0_off3 (i : grid0.Coords) : Fin 2 → Nat :=
  let arg0 : BitVec 32 := BitVec.ofNat 32 (i 0).val
  let c10_i32_7 : BitVec 32 := 10#32
  let v13 : BitVec 32 := Scalar.subi arg0 c10_i32_7
  let c5_i32 : BitVec 32 := 5#32
  let v14 : BitVec 32 := Scalar.subi v13 c5_i32
  let c2000_i32 : BitVec 32 := 2000#32
  let v31 : BitVec 32 := Scalar.muli v14 c2000_i32
  let v32 : Index := Scalar.indexCast v31
  let c0_19 : Index := 0#32
  ![v32.toNat, 0]
def cc0_transform_0 (i : grid0.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c15_i32 : BitVec 32 := 15#32
  let v0 : BitVec 32 := Scalar.subi arg0 c15_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x40 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .smem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .smem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2000x40 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S10000x1x256 : Shape := ⟨3, ![10000, 1, 256]⟩
abbrev S10000x16x1x256 : Shape := ⟨4, ![10000, 16, 1, 256]⟩
abbrev S128x256 : Shape := ⟨2, ![128, 256]⟩
abbrev S128x128 : Shape := ⟨2, ![128, 128]⟩
abbrev S1 : Shape := ⟨1, ![1]⟩
abbrev S40x128 : Shape := ⟨2, ![40, 128]⟩
abbrev S40 : Shape := ⟨1, ![40]⟩
abbrev S_ : Shape := ⟨0, ![]⟩
abbrev S256x128 : Shape := ⟨2, ![256, 128]⟩
abbrev S10000x1x128 : Shape := ⟨3, ![10000, 1, 128]⟩
abbrev S10000x16x1x128 : Shape := ⟨4, ![10000, 16, 1, 128]⟩
abbrev S1x1x1 : Shape := ⟨3, ![1, 1, 1]⟩
abbrev S10000x1 : Shape := ⟨2, ![10000, 1]⟩
abbrev S10000x1x1x1 : Shape := ⟨4, ![10000, 1, 1, 1]⟩
abbrev S10000x128 : Shape := ⟨2, ![10000, 128]⟩
abbrev S128x40 : Shape := ⟨2, ![128, 40]⟩
abbrev S10000x40 : Shape := ⟨2, ![10000, 40]⟩
abbrev S1x40 : Shape := ⟨2, ![1, 40]⟩

abbrev nBuf : Space → Nat
  | .hbm => 181
  | .vmem => 0
  | .smem => 0
  | _ => 0

abbrev hbmTy0_0 (i : Nat) : BufTy := match i % 128 with
  | 0 => ⟨S10000x1x256, .f32⟩
  | 1 => ⟨S10000x16x1x256, .f32⟩
  | 2 => ⟨S128x256, .f32⟩
  | 3 => ⟨S128x256, .f32⟩
  | 4 => ⟨S128x128, .f32⟩
  | 5 => ⟨S128x128, .f32⟩
  | 6 => ⟨S1, .f32⟩
  | 7 => ⟨S1, .f32⟩
  | 8 => ⟨S1, .f32⟩
  | 9 => ⟨S1, .f32⟩
  | 10 => ⟨S40x128, .f32⟩
  | 11 => ⟨S40, .f32⟩
  | 12 => ⟨S_, .f32⟩
  | 13 => ⟨S10000x1x256, .f32⟩
  | 14 => ⟨S_, .f32⟩
  | 15 => ⟨S10000x1x256, .f32⟩
  | 16 => ⟨S10000x1x256, .f32⟩
  | 17 => ⟨S256x128, .f32⟩
  | 18 => ⟨S10000x1x128, .f32⟩
  | 19 => ⟨S256x128, .f32⟩
  | 20 => ⟨S10000x1x128, .f32⟩
  | 21 => ⟨S10000x1x128, .f32⟩
  | 22 => ⟨S256x128, .f32⟩
  | 23 => ⟨S10000x16x1x128, .f32⟩
  | 24 => ⟨S_, .f32⟩
  | 25 => ⟨S1, .f32⟩
  | 26 => ⟨S1x1x1, .f32⟩
  | 27 => ⟨S_, .f32⟩
  | 28 => ⟨S1x1x1, .f32⟩
  | 29 => ⟨S1x1x1, .f32⟩
  | 30 => ⟨S_, .i32⟩
  | 31 => ⟨S_, .f32⟩
  | 32 => ⟨S1, .f32⟩
  | 33 => ⟨S1x1x1, .f32⟩
  | 34 => ⟨S_, .f32⟩
  | 35 => ⟨S1x1x1, .f32⟩
  | 36 => ⟨S1x1x1, .f32⟩
  | 37 => ⟨S10000x1x128, .f32⟩
  | 38 => ⟨S10000x1x128, .f32⟩
  | 39 => ⟨S10000x1x128, .f32⟩
  | 40 => ⟨S_, .f32⟩
  | 41 => ⟨S_, .f32⟩
  | 42 => ⟨S_, .f32⟩
  | 43 => ⟨S_, .f32⟩
  | 44 => ⟨S1, .f32⟩
  | 45 => ⟨S1x1x1, .f32⟩
  | 46 => ⟨S1x1x1, .f32⟩
  | 47 => ⟨S1x1x1, .f32⟩
  | 48 => ⟨S_, .f32⟩
  | 49 => ⟨S_, .i1⟩
  | 50 => ⟨S_, .f32⟩
  | 51 => ⟨S_, .f32⟩
  | 52 => ⟨S1x1x1, .f32⟩
  | 53 => ⟨S1x1x1, .f32⟩
  | 54 => ⟨S10000x1x128, .f32⟩
  | 55 => ⟨S10000x1x128, .f32⟩
  | 56 => ⟨S_, .f32⟩
  | 57 => ⟨S1x1x1, .f32⟩
  | 58 => ⟨S1x1x1, .f32⟩
  | 59 => ⟨S1x1x1, .f32⟩
  | 60 => ⟨S10000x1x128, .f32⟩
  | 61 => ⟨S10000x1x128, .f32⟩
  | 62 => ⟨S_, .f32⟩
  | 63 => ⟨S10000x1x128, .f32⟩
  | 64 => ⟨S10000x1x128, .f32⟩
  | 65 => ⟨S_, .f32⟩
  | 66 => ⟨S10000x1x128, .f32⟩
  | 67 => ⟨S10000x1x128, .f32⟩
  | 68 => ⟨S_, .f32⟩
  | 69 => ⟨S10000x1x128, .f32⟩
  | 70 => ⟨S10000x1x128, .f32⟩
  | 71 => ⟨S_, .f32⟩
  | 72 => ⟨S10000x1, .f32⟩
  | 73 => ⟨S10000x1x1x1, .f32⟩
  | 74 => ⟨S_, .f32⟩
  | 75 => ⟨S10000x1x1x1, .f32⟩
  | 76 => ⟨S10000x1x1x1, .f32⟩
  | 77 => ⟨S_, .i32⟩
  | 78 => ⟨S_, .f32⟩
  | 79 => ⟨S10000x1, .f32⟩
  | 80 => ⟨S10000x1x1x1, .f32⟩
  | 81 => ⟨S_, .f32⟩
  | 82 => ⟨S10000x1x1x1, .f32⟩
  | 83 => ⟨S10000x1x1x1, .f32⟩
  | 84 => ⟨S10000x16x1x128, .f32⟩
  | 85 => ⟨S10000x16x1x128, .f32⟩
  | 86 => ⟨S10000x16x1x128, .f32⟩
  | 87 => ⟨S_, .f32⟩
  | 88 => ⟨S_, .f32⟩
  | 89 => ⟨S_, .f32⟩
  | 90 => ⟨S_, .f32⟩
  | 91 => ⟨S10000x1, .f32⟩
  | 92 => ⟨S10000x1x1x1, .f32⟩
  | 93 => ⟨S10000x1x1x1, .f32⟩
  | 94 => ⟨S10000x1x1x1, .f32⟩
  | 95 => ⟨S_, .f32⟩
  | 96 => ⟨S_, .i1⟩
  | 97 => ⟨S_, .f32⟩
  | 98 => ⟨S_, .f32⟩
  | 99 => ⟨S10000x1x1x1, .f32⟩
  | 100 => ⟨S10000x1x1x1, .f32⟩
  | 101 => ⟨S10000x16x1x128, .f32⟩
  | 102 => ⟨S10000x16x1x128, .f32⟩
  | 103 => ⟨S_, .f32⟩
  | 104 => ⟨S10000x1x1x1, .f32⟩
  | 105 => ⟨S10000x1x1x1, .f32⟩
  | 106 => ⟨S10000x1x1x1, .f32⟩
  | 107 => ⟨S10000x16x1x128, .f32⟩
  | 108 => ⟨S10000x16x1x128, .f32⟩
  | 109 => ⟨S_, .f32⟩
  | 110 => ⟨S10000x16x1x128, .f32⟩
  | 111 => ⟨S10000x16x1x128, .f32⟩
  | 112 => ⟨S_, .f32⟩
  | 113 => ⟨S10000x16x1x128, .f32⟩
  | 114 => ⟨S10000x16x1x128, .f32⟩
  | 115 => ⟨S_, .f32⟩
  | 116 => ⟨S10000x16x1x128, .f32⟩
  | 117 => ⟨S10000x16x1x128, .f32⟩
  | 118 => ⟨S_, .f32⟩
  | 119 => ⟨S10000x1x128, .f32⟩
  | 120 => ⟨S_, .f32⟩
  | 121 => ⟨S10000x1x128, .f32⟩
  | 122 => ⟨S10000x1x128, .f32⟩
  | 123 => ⟨S128x128, .f32⟩
  | 124 => ⟨S10000x1x128, .f32⟩
  | 125 => ⟨S128x128, .f32⟩
  | 126 => ⟨S10000x1x128, .f32⟩
  | 127 => ⟨S10000x1x128, .f32⟩
  | _ => ⟨S10000x1x256, .f32⟩

abbrev hbmTy0_1 (i : Nat) : BufTy := match i % 128 with
  | 0 => ⟨S_, .f32⟩
  | 1 => ⟨S1, .f32⟩
  | 2 => ⟨S1x1x1, .f32⟩
  | 3 => ⟨S_, .f32⟩
  | 4 => ⟨S1x1x1, .f32⟩
  | 5 => ⟨S1x1x1, .f32⟩
  | 6 => ⟨S_, .i32⟩
  | 7 => ⟨S_, .f32⟩
  | 8 => ⟨S1, .f32⟩
  | 9 => ⟨S1x1x1, .f32⟩
  | 10 => ⟨S_, .f32⟩
  | 11 => ⟨S1x1x1, .f32⟩
  | 12 => ⟨S1x1x1, .f32⟩
  | 13 => ⟨S10000x1x128, .f32⟩
  | 14 => ⟨S10000x1x128, .f32⟩
  | 15 => ⟨S10000x1x128, .f32⟩
  | 16 => ⟨S_, .f32⟩
  | 17 => ⟨S_, .f32⟩
  | 18 => ⟨S_, .f32⟩
  | 19 => ⟨S_, .f32⟩
  | 20 => ⟨S1, .f32⟩
  | 21 => ⟨S1x1x1, .f32⟩
  | 22 => ⟨S1x1x1, .f32⟩
  | 23 => ⟨S1x1x1, .f32⟩
  | 24 => ⟨S_, .f32⟩
  | 25 => ⟨S_, .i1⟩
  | 26 => ⟨S_, .f32⟩
  | 27 => ⟨S_, .f32⟩
  | 28 => ⟨S1x1x1, .f32⟩
  | 29 => ⟨S1x1x1, .f32⟩
  | 30 => ⟨S10000x1x128, .f32⟩
  | 31 => ⟨S10000x1x128, .f32⟩
  | 32 => ⟨S_, .f32⟩
  | 33 => ⟨S1x1x1, .f32⟩
  | 34 => ⟨S1x1x1, .f32⟩
  | 35 => ⟨S1x1x1, .f32⟩
  | 36 => ⟨S10000x1x128, .f32⟩
  | 37 => ⟨S10000x1x128, .f32⟩
  | 38 => ⟨S_, .f32⟩
  | 39 => ⟨S10000x1x128, .f32⟩
  | 40 => ⟨S10000x1x128, .f32⟩
  | 41 => ⟨S_, .f32⟩
  | 42 => ⟨S10000x1x128, .f32⟩
  | 43 => ⟨S10000x1x128, .f32⟩
  | 44 => ⟨S_, .f32⟩
  | 45 => ⟨S10000x1x128, .f32⟩
  | 46 => ⟨S10000x1x128, .f32⟩
  | 47 => ⟨S10000x128, .f32⟩
  | 48 => ⟨S128x40, .f32⟩
  | 49 => ⟨S10000x40, .f32⟩
  | 50 => ⟨S1x40, .f32⟩
  | 51 => ⟨S10000x40, .f32⟩
  | 52 => ⟨S10000x40, .f32⟩
  | _ => ⟨S10000x1x256, .f32⟩

abbrev hbmTy (i : Nat) : BufTy := match i / 128 with
  | 0 => hbmTy0_0 i
  | 1 => hbmTy0_1 i
  | _ => ⟨S10000x1x256, .f32⟩

abbrev bufTy : (tb : Table) → Fin (tcTables nBuf tb) → BufTy
  | .hbm, ⟨i, _⟩ => hbmTy i
  | _, _ => ⟨S10000x1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_cst_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_cst_1 : Ref sig .tc := ⟨.hbm, 41, rfl⟩
abbrev main_call0_v8 : Ref sig .tc := ⟨.hbm, 42, rfl⟩
abbrev main_call0_cst_2 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_cst_3 : Ref sig .tc := ⟨.hbm, 48, rfl⟩
abbrev main_call0_v13 : Ref sig .tc := ⟨.hbm, 49, rfl⟩
abbrev main_call0_cst_4 : Ref sig .tc := ⟨.hbm, 50, rfl⟩
abbrev main_call0_call0_v0 : Ref sig .tc := ⟨.hbm, 51, rfl⟩
abbrev main_call0_call0_v1 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_cst_3 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_call1_cst : Ref sig .tc := ⟨.hbm, 68, rfl⟩
abbrev main_call1_v0 : Ref sig .tc := ⟨.hbm, 69, rfl⟩
abbrev main_v28 : Ref sig .tc := ⟨.hbm, 70, rfl⟩
abbrev main_cst_4 : Ref sig .tc := ⟨.hbm, 71, rfl⟩
abbrev main_v29 : Ref sig .tc := ⟨.hbm, 72, rfl⟩
abbrev main_v30 : Ref sig .tc := ⟨.hbm, 73, rfl⟩
abbrev main_cst_5 : Ref sig .tc := ⟨.hbm, 74, rfl⟩
abbrev main_v31 : Ref sig .tc := ⟨.hbm, 75, rfl⟩
abbrev main_v32 : Ref sig .tc := ⟨.hbm, 76, rfl⟩
abbrev main_c_6 : Ref sig .tc := ⟨.hbm, 77, rfl⟩
abbrev main_call2_cst : Ref sig .tc := ⟨.hbm, 78, rfl⟩
abbrev main_call2_v0 : Ref sig .tc := ⟨.hbm, 79, rfl⟩
abbrev main_call2_v1 : Ref sig .tc := ⟨.hbm, 80, rfl⟩
abbrev main_call2_cst_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_call2_v7 : Ref sig .tc := ⟨.hbm, 87, rfl⟩
abbrev main_call2_cst_1 : Ref sig .tc := ⟨.hbm, 88, rfl⟩
abbrev main_call2_v8 : Ref sig .tc := ⟨.hbm, 89, rfl⟩
abbrev main_call2_cst_2 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_v12 : Ref sig .tc := ⟨.hbm, 94, rfl⟩
abbrev main_call2_cst_3 : Ref sig .tc := ⟨.hbm, 95, rfl⟩
abbrev main_call2_v13 : Ref sig .tc := ⟨.hbm, 96, rfl⟩
abbrev main_call2_cst_4 : Ref sig .tc := ⟨.hbm, 97, rfl⟩
abbrev main_call2_call0_v0 : Ref sig .tc := ⟨.hbm, 98, rfl⟩
abbrev main_call2_call0_v1 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_cst_7 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_call3_cst : Ref sig .tc := ⟨.hbm, 115, rfl⟩
abbrev main_call3_v0 : Ref sig .tc := ⟨.hbm, 116, rfl⟩
abbrev main_v47 : Ref sig .tc := ⟨.hbm, 117, rfl⟩
abbrev main_cst_8 : Ref sig .tc := ⟨.hbm, 118, rfl⟩
abbrev main_v48 : Ref sig .tc := ⟨.hbm, 119, rfl⟩
abbrev main_cst_9 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_cst_10 : Ref sig .tc := ⟨.hbm, 128, rfl⟩
abbrev main_v56 : Ref sig .tc := ⟨.hbm, 129, rfl⟩
abbrev main_v57 : Ref sig .tc := ⟨.hbm, 130, rfl⟩
abbrev main_cst_11 : Ref sig .tc := ⟨.hbm, 131, rfl⟩
abbrev main_v58 : Ref sig .tc := ⟨.hbm, 132, rfl⟩
abbrev main_v59 : Ref sig .tc := ⟨.hbm, 133, rfl⟩
abbrev main_c_12 : Ref sig .tc := ⟨.hbm, 134, rfl⟩
abbrev main_call4_cst : Ref sig .tc := ⟨.hbm, 135, rfl⟩
abbrev main_call4_v0 : Ref sig .tc := ⟨.hbm, 136, rfl⟩
abbrev main_call4_v1 : Ref sig .tc := ⟨.hbm, 137, rfl⟩
abbrev main_call4_cst_0 : Ref sig .tc := ⟨.hbm, 138, rfl⟩
abbrev main_call4_v2 : Ref sig .tc := ⟨.hbm, 139, rfl⟩
abbrev main_call4_v3 : Ref sig .tc := ⟨.hbm, 140, rfl⟩
abbrev main_call4_v4 : Ref sig .tc := ⟨.hbm, 141, rfl⟩
abbrev main_call4_v5 : Ref sig .tc := ⟨.hbm, 142, rfl⟩
abbrev main_call4_v6 : Ref sig .tc := ⟨.hbm, 143, rfl⟩
abbrev main_call4_v7 : Ref sig .tc := ⟨.hbm, 144, rfl⟩
abbrev main_call4_cst_1 : Ref sig .tc := ⟨.hbm, 145, rfl⟩
abbrev main_call4_v8 : Ref sig .tc := ⟨.hbm, 146, rfl⟩
abbrev main_call4_cst_2 : Ref sig .tc := ⟨.hbm, 147, rfl⟩
abbrev main_call4_v9 : Ref sig .tc := ⟨.hbm, 148, rfl⟩
abbrev main_call4_v10 : Ref sig .tc := ⟨.hbm, 149, rfl⟩
abbrev main_call4_v11 : Ref sig .tc := ⟨.hbm, 150, rfl⟩
abbrev main_call4_v12 : Ref sig .tc := ⟨.hbm, 151, rfl⟩
abbrev main_call4_cst_3 : Ref sig .tc := ⟨.hbm, 152, rfl⟩
abbrev main_call4_v13 : Ref sig .tc := ⟨.hbm, 153, rfl⟩
abbrev main_call4_cst_4 : Ref sig .tc := ⟨.hbm, 154, rfl⟩
abbrev main_call4_call0_v0 : Ref sig .tc := ⟨.hbm, 155, rfl⟩
abbrev main_call4_call0_v1 : Ref sig .tc := ⟨.hbm, 156, rfl⟩
abbrev main_v60 : Ref sig .tc := ⟨.hbm, 157, rfl⟩
abbrev main_v61 : Ref sig .tc := ⟨.hbm, 158, rfl⟩
abbrev main_v62 : Ref sig .tc := ⟨.hbm, 159, rfl⟩
abbrev main_cst_13 : Ref sig .tc := ⟨.hbm, 160, rfl⟩
abbrev main_v63 : Ref sig .tc := ⟨.hbm, 161, rfl⟩
abbrev main_v64 : Ref sig .tc := ⟨.hbm, 162, rfl⟩
abbrev main_v65 : Ref sig .tc := ⟨.hbm, 163, rfl⟩
abbrev main_v66 : Ref sig .tc := ⟨.hbm, 164, rfl⟩
abbrev main_v67 : Ref sig .tc := ⟨.hbm, 165, rfl⟩
abbrev main_v68 : Ref sig .tc := ⟨.hbm, 166, rfl⟩
abbrev main_v69 : Ref sig .tc := ⟨.hbm, 167, rfl⟩
abbrev main_v70 : Ref sig .tc := ⟨.hbm, 168, rfl⟩
abbrev main_v71 : Ref sig .tc := ⟨.hbm, 169, rfl⟩
abbrev main_v72 : Ref sig .tc := ⟨.hbm, 170, rfl⟩
abbrev main_v73 : Ref sig .tc := ⟨.hbm, 171, rfl⟩
abbrev main_call5_cst : Ref sig .tc := ⟨.hbm, 172, rfl⟩
abbrev main_call5_v0 : Ref sig .tc := ⟨.hbm, 173, rfl⟩
abbrev main_v74 : Ref sig .tc := ⟨.hbm, 174, rfl⟩
abbrev main_v75 : Ref sig .tc := ⟨.hbm, 175, rfl⟩
abbrev main_v76 : Ref sig .tc := ⟨.hbm, 176, rfl⟩
abbrev main_v77 : Ref sig .tc := ⟨.hbm, 177, rfl⟩
abbrev main_v78 : Ref sig .tc := ⟨.hbm, 178, rfl⟩
abbrev main_v79 : Ref sig .tc := ⟨.hbm, 179, rfl⟩
abbrev main_v80 : Ref sig .tc := ⟨.hbm, 180, rfl⟩

abbrev nD : Nat := 1
abbrev τ : Topo := Topo.v7x

variable {F : FTy → Type} [FloatOps F]
-- ==== Proof.Ideal.Points.lean ====
/-
  One grid point of the kernel, in each of the five ways it can go: the first point of the pass over the neighbours, a later
  point of it, the first point of the second layer's pass, a later one, and a point of the pass that writes the result.
  Each theorem says what the twenty buffers read after the point, from what they read before it.
-/
module

public import proofs.«01_k».proof.Proof.Gen.KernelIdeal.Frame
public import proofs.«01_k».proof.Proof.Gen.KernelIdeal.Skeleton
public import Idealize.ShloMosaic.Lib.Claim
public import Idealize.ShloMosaic.Lib.Pipeline.Value

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Rectangles and scalars -/

/-- Two zeros are zero throughout. -/
theorem zz : (![0, 0] : Fin 2 → Nat) = fun _ => 0 := by decide

/-- The word a one-by-one table holds. -/
def sc (x : Vec F S1x1 .f32) : Elt F .f32 := x (Shape.Idx.first (by decide))

/-- The thousand rows a point of the first pass stores. -/
abbrev rows1 (i : grid0.Coords) (h : k0_cond1 i = 1#1) : Rect S10000x128 :=
  Rect.unit (s := S10000x128) (k0_off1 i) S1000x128.size (k0_off1_inb i h)

/-- The two thousand rows a point of the second pass reads and stores. -/
abbrev rows2 (i : grid0.Coords) (h : k0_cond4 i = 1#1) : Rect S10000x128 :=
  Rect.unit (s := S10000x128) (k0_off2 i) S2000x128.size (k0_off2_inb i h)

/-- The two thousand rows a point of the last pass reads. -/
abbrev rows3 (i : grid0.Coords) (h : k0_cond7 i = 1#1) : Rect S10000x128 :=
  Rect.unit (s := S10000x128) (k0_off3 i) S2000x128.size (k0_off3_inb i h)

section Access
variable {κ : Kind} {sp : Space} {S : Shape} {e : EltTy}

/-- A load of the whole shape reads what the view reads. -/
theorem rd_whole (v : View sig κ sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f :=
  View.ld_unit_zero h inb (v.read (Elt F) f)

/-- After one store through a rectangle the view reads the payload there and the old contents elsewhere. -/
theorem rd_store (v : View sig κ sp S e) (r : Rect S) (f : v.ty.Contents (Elt F)) (w : r.shape.Idx → Elt F e) :
    v.read (Elt F) (v.writes (Elt F) f [⟨r, w⟩]) = r.overlay (v.read (Elt F) f) w := by
  funext y
  by_cases hy : y ∈ r.set
  · rw [← Rect.map_emb_univ, Finset.mem_map] at hy
    obtain ⟨j, -, rfl⟩ := hy
    rw [Rect.overlay_emb, View.read_writes_cons_emb]
  · rw [Rect.overlay_of_not_mem _ _ _ hy, View.read_writes_cons_miss _ _ _ _ _ hy]; rfl

/-- After one store of the whole shape the view reads the payload. -/
theorem rd_store_whole (v : View sig κ sp S e) {off : Fin S.rank → Nat} (h : off = fun _ => 0)
    (inb : ∀ a, off a + S.size a ≤ S.size a) (f : v.ty.Contents (Elt F)) (w : S.Idx → Elt F e) :
    v.read (Elt F) (v.writes (Elt F) f [⟨Rect.unit off S.size inb, w⟩]) = w := by
  subst h
  rw [rd_store]; funext y
  have := Rect.overlay_emb (Rect.whole S) (v.read (Elt F) f) w y
  rw [Rect.emb_whole_apply] at this; exact this
end Access

section Whole
variable {κ : Kind} {sp : Space} {e : EltTy}

/-- A load of the whole shape 1000 by 256 reads the contents. -/
theorem rd_S1000x256 (v : View sig κ sp S1000x256 e) (inb : ∀ a, (![0, 0] : Fin 2 → Nat) a + S1000x256.size a ≤ S1000x256.size a)
    (f : v.ty.Contents (Elt F)) :
    v.readAt (Elt F) (Rect.unit (s := S1000x256) ![0, 0] S1000x256.size inb).toLoadRect f = v.read (Elt F) f := rd_whole v zz inb f

/-- A load of the whole shape 16000 by 256 reads the contents. -/
theorem rd_S16000x256 (v : View sig κ sp S16000x256 e) (inb : ∀ a, (![0, 0] : Fin 2 → Nat) a + S16000x256.size a ≤ S16000x256.size a)
    (f : v.ty.Contents (Elt F)) :
    v.readAt (Elt F) (Rect.unit (s := S16000x256) ![0, 0] S16000x256.size inb).toLoadRect f = v.read (Elt F) f := rd_whole v zz inb f

/-- A load of the whole shape 256 by 128 reads the contents. -/
theorem rd_S256x128 (v : View sig κ sp S256x128 e) (inb : ∀ a, (![0, 0] : Fin 2 → Nat) a + S256x128.size a ≤ S256x128.size a)
    (f : v.ty.Contents (Elt F)) :
    v.readAt (Elt F) (Rect.unit (s := S256x128) ![0, 0] S256x128.size inb).toLoadRect f = v.read (Elt F) f := rd_whole v zz inb f

/-- A load of the whole shape 128 by 128 reads the contents. -/
theorem rd_S128x128 (v : View sig κ sp S128x128 e) (inb : ∀ a, (![0, 0] : Fin 2 → Nat) a + S128x128.size a ≤ S128x128.size a)
    (f : v.ty.Contents (Elt F)) :
    v.readAt (Elt F) (Rect.unit (s := S128x128) ![0, 0] S128x128.size inb).toLoadRect f = v.read (Elt F) f := rd_whole v zz inb f

/-- A load of the whole shape 128 by 40 reads the contents. -/
theorem rd_S128x40 (v : View sig κ sp S128x40 e) (inb : ∀ a, (![0, 0] : Fin 2 → Nat) a + S128x40.size a ≤ S128x40.size a)
    (f : v.ty.Contents (Elt F)) :
    v.readAt (Elt F) (Rect.unit (s := S128x40) ![0, 0] S128x40.size inb).toLoadRect f = v.read (Elt F) f := rd_whole v zz inb f

/-- A load of the whole shape 1 by 40 reads the contents. -/
theorem rd_S1x40 (v : View sig κ sp S1x40 e) (inb : ∀ a, (![0, 0] : Fin 2 → Nat) a + S1x40.size a ≤ S1x40.size a)
    (f : v.ty.Contents (Elt F)) :
    v.readAt (Elt F) (Rect.unit (s := S1x40) ![0, 0] S1x40.size inb).toLoadRect f = v.read (Elt F) f := rd_whole v zz inb f

/-- A load of the whole shape 1 by 1 reads the contents. -/
theorem rd_S1x1 (v : View sig κ sp S1x1 e) (inb : ∀ a, (![0, 0] : Fin 2 → Nat) a + S1x1.size a ≤ S1x1.size a)
    (f : v.ty.Contents (Elt F)) :
    v.readAt (Elt F) (Rect.unit (s := S1x1) ![0, 0] S1x1.size inb).toLoadRect f = v.read (Elt F) f := rd_whole v zz inb f

/-- A load of the whole shape 8 by 128 reads the contents. -/
theorem rd_S8x128 (v : View sig κ sp S8x128 e) (inb : ∀ a, (![0, 0] : Fin 2 → Nat) a + S8x128.size a ≤ S8x128.size a)
    (f : v.ty.Contents (Elt F)) :
    v.readAt (Elt F) (Rect.unit (s := S8x128) ![0, 0] S8x128.size inb).toLoadRect f = v.read (Elt F) f := rd_whole v zz inb f
end Whole

/-! ## The five points -/

/-- The first point: a thousand rows of the two first-layer products are stored, and the running sums are started. -/
theorem run_first (c : Dev nD) (E : Set ℕ) (i : grid0.Coords) (arg1 : Memref sig .tc .vmem S1000x256 .f32) (harg1 : arg1.IsWhole) (arg2 : Memref sig .tc .vmem S16000x256 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x40 .f32) (harg7 : arg7.IsWhole) (arg8 : Memref sig .tc .vmem S1x40 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S2000x40 .f32) (harg13 : arg13.IsWhole) (arg14 : Memref sig .tc .vmem S10000x128 .f32) (harg14 : arg14.IsWhole) (arg15 : Memref sig .tc .vmem S10000x128 .f32) (harg15 : arg15.IsWhole) (arg16 : Memref sig .tc .vmem S10000x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole)
    (h1 : k0_cond1 i = 1#1) (h4 : ¬ k0_cond4 i = 1#1) (h7 : ¬ k0_cond7 i = 1#1)
    (h2 : Scalar.cmpi .ne (Scalar.extui (Scalar.cmpi .eq (BitVec.ofNat 32 (i 0).val) 0#32)) 0#32 = 1#1) (h3 : ¬ Scalar.cmpi .ne (Scalar.extui (Scalar.cmpi .sgt (BitVec.ofNat 32 (i 0).val) 0#32)) 0#32 = 1#1)
    (x1 : Vec F S1000x256 .f32) (x2 : Vec F S16000x256 .f32) (x3 : Vec F S256x128 .f32) (x4 : Vec F S256x128 .f32) (x5 : Vec F S128x128 .f32) (x6 : Vec F S128x128 .f32) (x7 : Vec F S128x40 .f32) (x8 : Vec F S1x40 .f32) (x9 : Vec F S1x1 .f32) (x10 : Vec F S1x1 .f32) (x11 : Vec F S1x1 .f32) (x12 : Vec F S1x1 .f32) (x13 : Vec F S2000x40 .f32) (x14 : Vec F S10000x128 .f32) (x15 : Vec F S10000x128 .f32) (x16 : Vec F S10000x128 .f32) (x17 : Vec F S8x128 .f32) (x18 : Vec F S8x128 .f32) (x19 : Vec F S8x128 .f32) (x20 : Vec F S8x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare ((rows1 i h1).overlay x14 (k0_pay2 (k0_pay19 x3) (k0_pay21 x2) x1 x4)) ∗ owns (c : Thread nD τ) arg15 fullShare ((rows1 i h1).overlay x15 (k0_pay20 (sc x9) (sc x10) x2 x3)) ∗ owns (c : Thread nD τ) arg16 fullShare x16 ∗ owns (c : Thread nD τ) arg17 fullShare (k0_pay5 (k0_pay19 x3) (k0_pay21 x2) x1 x4) ∗ owns (c : Thread nD τ) arg18 fullShare (k0_pay6 (k0_pay19 x3) (k0_pay21 x2) x1 x4) ∗ owns (c : Thread nD τ) arg19 fullShare x19 ∗ owns (c : Thread nD τ) arg20 fullShare x20) -∗ K ⟨⟩))
      ⊢ wp frame (wpE (defs₀ (F := F)) Variants.none c none) E (cc0__kall i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__kall_eq_skeleton, k0_part1_eq_skeleton, k0_part2_eq_skeleton, k0_part3_eq_skeleton]
  unfold cc0__kall_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
  subst hf1 hf2 hf3 hf4 hf5 hf6 hf7 hf8 hf9 hf10 hf11 hf12 hf13 hf14 hf15 hf16 hf17 hf18 hf19 hf20
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    rw [rd_store, ← rd_S1000x256 arg1.view inb_S1000x256_S1000x256_0_0 f1, ← rd_S16000x256 arg2.view inb_S16000x256_S16000x256_0_0 f2, ← rd_S256x128 arg3.view inb_S256x128_S256x128_0_0 f3, ← rd_S256x128 arg4.view inb_S256x128_S256x128_0_0 f4]; rfl
  isplitl [H15]
  · iexists _; isplitr
    swap; · iexact H15
    ipureintro
    rw [rd_store, ← rd_S16000x256 arg2.view inb_S16000x256_S16000x256_0_0 f2, ← rd_S256x128 arg3.view inb_S256x128_S256x128_0_0 f3, ← rd_S1x1 arg9.view inb_S1x1_S1x1_0_0 f9, ← rd_S1x1 arg10.view inb_S1x1_S1x1_0_0 f10]; rfl
  isplitl [H16]
  · iexists f16; isplitr; · ipureintro; rfl
    iexact H16
  isplitl [H17]
  · iexists _; isplitr
    swap; · iexact H17
    ipureintro
    rw [rd_store_whole _ zz, ← rd_S1000x256 arg1.view inb_S1000x256_S1000x256_0_0 f1, ← rd_S16000x256 arg2.view inb_S16000x256_S16000x256_0_0 f2, ← rd_S256x128 arg3.view inb_S256x128_S256x128_0_0 f3, ← rd_S256x128 arg4.view inb_S256x128_S256x128_0_0 f4]; rfl
  isplitl [H18]
  · iexists _; isplitr
    swap; · iexact H18
    ipureintro
    rw [rd_store_whole _ zz, ← rd_S1000x256 arg1.view inb_S1000x256_S1000x256_0_0 f1, ← rd_S16000x256 arg2.view inb_S16000x256_S16000x256_0_0 f2, ← rd_S256x128 arg3.view inb_S256x128_S256x128_0_0 f3, ← rd_S256x128 arg4.view inb_S256x128_S256x128_0_0 f4]; rfl
  isplitl [H19]
  · iexists f19; isplitr; · ipureintro; rfl
    iexact H19
  · iexists f20; isplitr; · ipureintro; rfl
    iexact H20

/-- A later point of the first pass: a thousand rows more, and the running sums are added to. -/
theorem run_later (c : Dev nD) (E : Set ℕ) (i : grid0.Coords) (arg1 : Memref sig .tc .vmem S1000x256 .f32) (harg1 : arg1.IsWhole) (arg2 : Memref sig .tc .vmem S16000x256 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x40 .f32) (harg7 : arg7.IsWhole) (arg8 : Memref sig .tc .vmem S1x40 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S2000x40 .f32) (harg13 : arg13.IsWhole) (arg14 : Memref sig .tc .vmem S10000x128 .f32) (harg14 : arg14.IsWhole) (arg15 : Memref sig .tc .vmem S10000x128 .f32) (harg15 : arg15.IsWhole) (arg16 : Memref sig .tc .vmem S10000x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole)
    (h1 : k0_cond1 i = 1#1) (h4 : ¬ k0_cond4 i = 1#1) (h7 : ¬ k0_cond7 i = 1#1)
    (h2 : ¬ Scalar.cmpi .ne (Scalar.extui (Scalar.cmpi .eq (BitVec.ofNat 32 (i 0).val) 0#32)) 0#32 = 1#1) (h3 : Scalar.cmpi .ne (Scalar.extui (Scalar.cmpi .sgt (BitVec.ofNat 32 (i 0).val) 0#32)) 0#32 = 1#1)
    (x1 : Vec F S1000x256 .f32) (x2 : Vec F S16000x256 .f32) (x3 : Vec F S256x128 .f32) (x4 : Vec F S256x128 .f32) (x5 : Vec F S128x128 .f32) (x6 : Vec F S128x128 .f32) (x7 : Vec F S128x40 .f32) (x8 : Vec F S1x40 .f32) (x9 : Vec F S1x1 .f32) (x10 : Vec F S1x1 .f32) (x11 : Vec F S1x1 .f32) (x12 : Vec F S1x1 .f32) (x13 : Vec F S2000x40 .f32) (x14 : Vec F S10000x128 .f32) (x15 : Vec F S10000x128 .f32) (x16 : Vec F S10000x128 .f32) (x17 : Vec F S8x128 .f32) (x18 : Vec F S8x128 .f32) (x19 : Vec F S8x128 .f32) (x20 : Vec F S8x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare ((rows1 i h1).overlay x14 (k0_pay2 (k0_pay19 x3) (k0_pay21 x2) x1 x4)) ∗ owns (c : Thread nD τ) arg15 fullShare ((rows1 i h1).overlay x15 (k0_pay20 (sc x9) (sc x10) x2 x3)) ∗ owns (c : Thread nD τ) arg16 fullShare x16 ∗ owns (c : Thread nD τ) arg17 fullShare (k0_pay7 (k0_pay19 x3) (k0_pay21 x2) x1 x4 x17) ∗ owns (c : Thread nD τ) arg18 fullShare (k0_pay8 (k0_pay19 x3) (k0_pay21 x2) x1 x4 x18) ∗ owns (c : Thread nD τ) arg19 fullShare x19 ∗ owns (c : Thread nD τ) arg20 fullShare x20) -∗ K ⟨⟩))
      ⊢ wp frame (wpE (defs₀ (F := F)) Variants.none c none) E (cc0__kall i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__kall_eq_skeleton, k0_part1_eq_skeleton, k0_part2_eq_skeleton, k0_part3_eq_skeleton]
  unfold cc0__kall_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
  subst hf1 hf2 hf3 hf4 hf5 hf6 hf7 hf8 hf9 hf10 hf11 hf12 hf13 hf14 hf15 hf16 hf17 hf18 hf19 hf20
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    rw [rd_store, ← rd_S1000x256 arg1.view inb_S1000x256_S1000x256_0_0 f1, ← rd_S16000x256 arg2.view inb_S16000x256_S16000x256_0_0 f2, ← rd_S256x128 arg3.view inb_S256x128_S256x128_0_0 f3, ← rd_S256x128 arg4.view inb_S256x128_S256x128_0_0 f4]; rfl
  isplitl [H15]
  · iexists _; isplitr
    swap; · iexact H15
    ipureintro
    rw [rd_store, ← rd_S16000x256 arg2.view inb_S16000x256_S16000x256_0_0 f2, ← rd_S256x128 arg3.view inb_S256x128_S256x128_0_0 f3, ← rd_S1x1 arg9.view inb_S1x1_S1x1_0_0 f9, ← rd_S1x1 arg10.view inb_S1x1_S1x1_0_0 f10]; rfl
  isplitl [H16]
  · iexists f16; isplitr; · ipureintro; rfl
    iexact H16
  isplitl [H17]
  · iexists _; isplitr
    swap; · iexact H17
    ipureintro
    rw [rd_store_whole _ zz, ← rd_S1000x256 arg1.view inb_S1000x256_S1000x256_0_0 f1, ← rd_S16000x256 arg2.view inb_S16000x256_S16000x256_0_0 f2, ← rd_S256x128 arg3.view inb_S256x128_S256x128_0_0 f3, ← rd_S256x128 arg4.view inb_S256x128_S256x128_0_0 f4, ← rd_S8x128 arg17.view inb_S8x128_S8x128_0_0 f17]; rfl
  isplitl [H18]
  · iexists _; isplitr
    swap; · iexact H18
    ipureintro
    rw [rd_store_whole _ zz, ← rd_S1000x256 arg1.view inb_S1000x256_S1000x256_0_0 f1, ← rd_S16000x256 arg2.view inb_S16000x256_S16000x256_0_0 f2, ← rd_S256x128 arg3.view inb_S256x128_S256x128_0_0 f3, ← rd_S256x128 arg4.view inb_S256x128_S256x128_0_0 f4, ← rd_S8x128 arg18.view inb_S8x128_S8x128_0_0 f18]; rfl
  isplitl [H19]
  · iexists f19; isplitr; · ipureintro; rfl
    iexact H19
  · iexists f20; isplitr; · ipureintro; rfl
    iexact H20

/-- The first point of the second pass: two thousand rows of the second layer, and its running sums are started. -/
theorem run_mid (c : Dev nD) (E : Set ℕ) (i : grid0.Coords) (arg1 : Memref sig .tc .vmem S1000x256 .f32) (harg1 : arg1.IsWhole) (arg2 : Memref sig .tc .vmem S16000x256 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x40 .f32) (harg7 : arg7.IsWhole) (arg8 : Memref sig .tc .vmem S1x40 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S2000x40 .f32) (harg13 : arg13.IsWhole) (arg14 : Memref sig .tc .vmem S10000x128 .f32) (harg14 : arg14.IsWhole) (arg15 : Memref sig .tc .vmem S10000x128 .f32) (harg15 : arg15.IsWhole) (arg16 : Memref sig .tc .vmem S10000x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole)
    (h1 : ¬ k0_cond1 i = 1#1) (h4 : k0_cond4 i = 1#1) (h7 : ¬ k0_cond7 i = 1#1)
    (h5 : Scalar.cmpi .ne (Scalar.extui (Scalar.cmpi .eq (Scalar.subi (BitVec.ofNat 32 (i 0).val) 10#32) 0#32)) 0#32 = 1#1) (h6 : ¬ Scalar.cmpi .ne (Scalar.extui (Scalar.cmpi .sgt (Scalar.subi (BitVec.ofNat 32 (i 0).val) 10#32) 0#32)) 0#32 = 1#1)
    (x1 : Vec F S1000x256 .f32) (x2 : Vec F S16000x256 .f32) (x3 : Vec F S256x128 .f32) (x4 : Vec F S256x128 .f32) (x5 : Vec F S128x128 .f32) (x6 : Vec F S128x128 .f32) (x7 : Vec F S128x40 .f32) (x8 : Vec F S1x40 .f32) (x9 : Vec F S1x1 .f32) (x10 : Vec F S1x1 .f32) (x11 : Vec F S1x1 .f32) (x12 : Vec F S1x1 .f32) (x13 : Vec F S2000x40 .f32) (x14 : Vec F S10000x128 .f32) (x15 : Vec F S10000x128 .f32) (x16 : Vec F S10000x128 .f32) (x17 : Vec F S8x128 .f32) (x18 : Vec F S8x128 .f32) (x19 : Vec F S8x128 .f32) (x20 : Vec F S8x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare ((rows2 i h4).overlay x16 (k0_pay10 (k0_pay22 (sc x9) (sc x10) x17 x18 (View.ld x14 (rows2 i h4)) x5) (k0_pay23 (View.ld x15 (rows2 i h4)) x6))) ∗ owns (c : Thread nD τ) arg17 fullShare x17 ∗ owns (c : Thread nD τ) arg18 fullShare x18 ∗ owns (c : Thread nD τ) arg19 fullShare (k0_pay13 (k0_pay22 (sc x9) (sc x10) x17 x18 (View.ld x14 (rows2 i h4)) x5) (k0_pay23 (View.ld x15 (rows2 i h4)) x6)) ∗ owns (c : Thread nD τ) arg20 fullShare (k0_pay14 (k0_pay22 (sc x9) (sc x10) x17 x18 (View.ld x14 (rows2 i h4)) x5) (k0_pay23 (View.ld x15 (rows2 i h4)) x6))) -∗ K ⟨⟩))
      ⊢ wp frame (wpE (defs₀ (F := F)) Variants.none c none) E (cc0__kall i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__kall_eq_skeleton, k0_part1_eq_skeleton, k0_part2_eq_skeleton, k0_part3_eq_skeleton]
  unfold cc0__kall_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
  subst hf1 hf2 hf3 hf4 hf5 hf6 hf7 hf8 hf9 hf10 hf11 hf12 hf13 hf14 hf15 hf16 hf17 hf18 hf19 hf20
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    rw [rd_store, ← rd_S128x128 arg5.view inb_S128x128_S128x128_0_0 f5, ← rd_S128x128 arg6.view inb_S128x128_S128x128_0_0 f6, ← rd_S1x1 arg9.view inb_S1x1_S1x1_0_0 f9, ← rd_S1x1 arg10.view inb_S1x1_S1x1_0_0 f10, ← rd_S8x128 arg17.view inb_S8x128_S8x128_0_0 f17, ← rd_S8x128 arg18.view inb_S8x128_S8x128_0_0 f18]; rfl
  isplitl [H17]
  · iexists f17; isplitr; · ipureintro; rfl
    iexact H17
  isplitl [H18]
  · iexists f18; isplitr; · ipureintro; rfl
    iexact H18
  isplitl [H19]
  · iexists _; isplitr
    swap; · iexact H19
    ipureintro
    rw [rd_store_whole _ zz, ← rd_S128x128 arg5.view inb_S128x128_S128x128_0_0 f5, ← rd_S128x128 arg6.view inb_S128x128_S128x128_0_0 f6, ← rd_S1x1 arg9.view inb_S1x1_S1x1_0_0 f9, ← rd_S1x1 arg10.view inb_S1x1_S1x1_0_0 f10, ← rd_S8x128 arg17.view inb_S8x128_S8x128_0_0 f17, ← rd_S8x128 arg18.view inb_S8x128_S8x128_0_0 f18]; rfl
  · iexists _; isplitr
    swap; · iexact H20
    ipureintro
    rw [rd_store_whole _ zz, ← rd_S128x128 arg5.view inb_S128x128_S128x128_0_0 f5, ← rd_S128x128 arg6.view inb_S128x128_S128x128_0_0 f6, ← rd_S1x1 arg9.view inb_S1x1_S1x1_0_0 f9, ← rd_S1x1 arg10.view inb_S1x1_S1x1_0_0 f10, ← rd_S8x128 arg17.view inb_S8x128_S8x128_0_0 f17, ← rd_S8x128 arg18.view inb_S8x128_S8x128_0_0 f18]; rfl

/-- A later point of the second pass. -/
theorem run_mid_later (c : Dev nD) (E : Set ℕ) (i : grid0.Coords) (arg1 : Memref sig .tc .vmem S1000x256 .f32) (harg1 : arg1.IsWhole) (arg2 : Memref sig .tc .vmem S16000x256 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x40 .f32) (harg7 : arg7.IsWhole) (arg8 : Memref sig .tc .vmem S1x40 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S2000x40 .f32) (harg13 : arg13.IsWhole) (arg14 : Memref sig .tc .vmem S10000x128 .f32) (harg14 : arg14.IsWhole) (arg15 : Memref sig .tc .vmem S10000x128 .f32) (harg15 : arg15.IsWhole) (arg16 : Memref sig .tc .vmem S10000x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole)
    (h1 : ¬ k0_cond1 i = 1#1) (h4 : k0_cond4 i = 1#1) (h7 : ¬ k0_cond7 i = 1#1)
    (h5 : ¬ Scalar.cmpi .ne (Scalar.extui (Scalar.cmpi .eq (Scalar.subi (BitVec.ofNat 32 (i 0).val) 10#32) 0#32)) 0#32 = 1#1) (h6 : Scalar.cmpi .ne (Scalar.extui (Scalar.cmpi .sgt (Scalar.subi (BitVec.ofNat 32 (i 0).val) 10#32) 0#32)) 0#32 = 1#1)
    (x1 : Vec F S1000x256 .f32) (x2 : Vec F S16000x256 .f32) (x3 : Vec F S256x128 .f32) (x4 : Vec F S256x128 .f32) (x5 : Vec F S128x128 .f32) (x6 : Vec F S128x128 .f32) (x7 : Vec F S128x40 .f32) (x8 : Vec F S1x40 .f32) (x9 : Vec F S1x1 .f32) (x10 : Vec F S1x1 .f32) (x11 : Vec F S1x1 .f32) (x12 : Vec F S1x1 .f32) (x13 : Vec F S2000x40 .f32) (x14 : Vec F S10000x128 .f32) (x15 : Vec F S10000x128 .f32) (x16 : Vec F S10000x128 .f32) (x17 : Vec F S8x128 .f32) (x18 : Vec F S8x128 .f32) (x19 : Vec F S8x128 .f32) (x20 : Vec F S8x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare ((rows2 i h4).overlay x16 (k0_pay10 (k0_pay22 (sc x9) (sc x10) x17 x18 (View.ld x14 (rows2 i h4)) x5) (k0_pay23 (View.ld x15 (rows2 i h4)) x6))) ∗ owns (c : Thread nD τ) arg17 fullShare x17 ∗ owns (c : Thread nD τ) arg18 fullShare x18 ∗ owns (c : Thread nD τ) arg19 fullShare (k0_pay15 (k0_pay22 (sc x9) (sc x10) x17 x18 (View.ld x14 (rows2 i h4)) x5) (k0_pay23 (View.ld x15 (rows2 i h4)) x6) x19) ∗ owns (c : Thread nD τ) arg20 fullShare (k0_pay16 (k0_pay22 (sc x9) (sc x10) x17 x18 (View.ld x14 (rows2 i h4)) x5) (k0_pay23 (View.ld x15 (rows2 i h4)) x6) x20)) -∗ K ⟨⟩))
      ⊢ wp frame (wpE (defs₀ (F := F)) Variants.none c none) E (cc0__kall i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__kall_eq_skeleton, k0_part1_eq_skeleton, k0_part2_eq_skeleton, k0_part3_eq_skeleton]
  unfold cc0__kall_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
  subst hf1 hf2 hf3 hf4 hf5 hf6 hf7 hf8 hf9 hf10 hf11 hf12 hf13 hf14 hf15 hf16 hf17 hf18 hf19 hf20
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    rw [rd_store, ← rd_S128x128 arg5.view inb_S128x128_S128x128_0_0 f5, ← rd_S128x128 arg6.view inb_S128x128_S128x128_0_0 f6, ← rd_S1x1 arg9.view inb_S1x1_S1x1_0_0 f9, ← rd_S1x1 arg10.view inb_S1x1_S1x1_0_0 f10, ← rd_S8x128 arg17.view inb_S8x128_S8x128_0_0 f17, ← rd_S8x128 arg18.view inb_S8x128_S8x128_0_0 f18]; rfl
  isplitl [H17]
  · iexists f17; isplitr; · ipureintro; rfl
    iexact H17
  isplitl [H18]
  · iexists f18; isplitr; · ipureintro; rfl
    iexact H18
  isplitl [H19]
  · iexists _; isplitr
    swap; · iexact H19
    ipureintro
    rw [rd_store_whole _ zz, ← rd_S128x128 arg5.view inb_S128x128_S128x128_0_0 f5, ← rd_S128x128 arg6.view inb_S128x128_S128x128_0_0 f6, ← rd_S1x1 arg9.view inb_S1x1_S1x1_0_0 f9, ← rd_S1x1 arg10.view inb_S1x1_S1x1_0_0 f10, ← rd_S8x128 arg17.view inb_S8x128_S8x128_0_0 f17, ← rd_S8x128 arg18.view inb_S8x128_S8x128_0_0 f18, ← rd_S8x128 arg19.view inb_S8x128_S8x128_0_0 f19]; rfl
  · iexists _; isplitr
    swap; · iexact H20
    ipureintro
    rw [rd_store_whole _ zz, ← rd_S128x128 arg5.view inb_S128x128_S128x128_0_0 f5, ← rd_S128x128 arg6.view inb_S128x128_S128x128_0_0 f6, ← rd_S1x1 arg9.view inb_S1x1_S1x1_0_0 f9, ← rd_S1x1 arg10.view inb_S1x1_S1x1_0_0 f10, ← rd_S8x128 arg17.view inb_S8x128_S8x128_0_0 f17, ← rd_S8x128 arg18.view inb_S8x128_S8x128_0_0 f18, ← rd_S8x128 arg20.view inb_S8x128_S8x128_0_0 f20]; rfl

/-- A point of the last pass: two thousand rows of the result. -/
theorem run_last (c : Dev nD) (E : Set ℕ) (i : grid0.Coords) (arg1 : Memref sig .tc .vmem S1000x256 .f32) (harg1 : arg1.IsWhole) (arg2 : Memref sig .tc .vmem S16000x256 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x40 .f32) (harg7 : arg7.IsWhole) (arg8 : Memref sig .tc .vmem S1x40 .f32) (harg8 : arg8.IsWhole) (arg9 : Memref sig .tc .smem S1x1 .f32) (harg9 : arg9.IsWhole) (arg10 : Memref sig .tc .smem S1x1 .f32) (harg10 : arg10.IsWhole) (arg11 : Memref sig .tc .smem S1x1 .f32) (harg11 : arg11.IsWhole) (arg12 : Memref sig .tc .smem S1x1 .f32) (harg12 : arg12.IsWhole) (arg13 : Memref sig .tc .vmem S2000x40 .f32) (harg13 : arg13.IsWhole) (arg14 : Memref sig .tc .vmem S10000x128 .f32) (harg14 : arg14.IsWhole) (arg15 : Memref sig .tc .vmem S10000x128 .f32) (harg15 : arg15.IsWhole) (arg16 : Memref sig .tc .vmem S10000x128 .f32) (harg16 : arg16.IsWhole) (arg17 : Memref sig .tc .vmem S8x128 .f32) (harg17 : arg17.IsWhole) (arg18 : Memref sig .tc .vmem S8x128 .f32) (harg18 : arg18.IsWhole) (arg19 : Memref sig .tc .vmem S8x128 .f32) (harg19 : arg19.IsWhole) (arg20 : Memref sig .tc .vmem S8x128 .f32) (harg20 : arg20.IsWhole)
    (h1 : ¬ k0_cond1 i = 1#1) (h4 : ¬ k0_cond4 i = 1#1) (h7 : k0_cond7 i = 1#1)
    (x1 : Vec F S1000x256 .f32) (x2 : Vec F S16000x256 .f32) (x3 : Vec F S256x128 .f32) (x4 : Vec F S256x128 .f32) (x5 : Vec F S128x128 .f32) (x6 : Vec F S128x128 .f32) (x7 : Vec F S128x40 .f32) (x8 : Vec F S1x40 .f32) (x9 : Vec F S1x1 .f32) (x10 : Vec F S1x1 .f32) (x11 : Vec F S1x1 .f32) (x12 : Vec F S1x1 .f32) (x13 : Vec F S2000x40 .f32) (x14 : Vec F S10000x128 .f32) (x15 : Vec F S10000x128 .f32) (x16 : Vec F S10000x128 .f32) (x17 : Vec F S8x128 .f32) (x18 : Vec F S8x128 .f32) (x19 : Vec F S8x128 .f32) (x20 : Vec F S8x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (k0_pay17 (k0_pay24 x19 x20 (sc x11) (sc x12) (View.ld x16 (rows3 i h7)) x7) x8) ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20) -∗ K ⟨⟩))
      ⊢ wp frame (wpE (defs₀ (F := F)) Variants.none c none) E (cc0__kall i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__kall_eq_skeleton, k0_part1_eq_skeleton, k0_part2_eq_skeleton, k0_part3_eq_skeleton]
  unfold cc0__kall_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, Hk⟩
  subst hf1 hf2 hf3 hf4 hf5 hf6 hf7 hf8 hf9 hf10 hf11 hf12 hf13 hf14 hf15 hf16 hf17 hf18 hf19 hf20
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    rw [rd_store_whole _ zz, ← rd_S128x40 arg7.view inb_S128x40_S128x40_0_0 f7, ← rd_S1x40 arg8.view inb_S1x40_S1x40_0_0 f8, ← rd_S1x1 arg11.view inb_S1x1_S1x1_0_0 f11, ← rd_S1x1 arg12.view inb_S1x1_S1x1_0_0 f12, ← rd_S8x128 arg19.view inb_S8x128_S8x128_0_0 f19, ← rd_S8x128 arg20.view inb_S8x128_S8x128_0_0 f20]; rfl
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  · iexists f20; isplitr; · ipureintro; rfl
    iexact H20

end Cert.Proof.Ideal
-- ==== Proof.Ideal.Track.lean ====
/-
  What the kernel's scratch buffers hold after `n` grid points, as functions of the input blocks, and how one point
  carries that knowledge to the next.
-/
module

public import proofs.«01_k».proof.Proof.Gen.KernelIdeal.Frame
public import proofs.«01_k».proof.Proof.Gen.KernelIdeal.Skeleton
public import proofs.«01_k».proof.Proof.Ideal.Points
public import Idealize.ShloMosaic.Lib.Claim
public import Idealize.ShloMosaic.Lib.ValueIdxCore
public import Idealize.ShloMosaic.Lib.Pipeline.Value

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-! ## The conditions and the offsets at the twenty points -/

/-- The grid has twenty points. -/
theorem N20 : cfg0.N = 20 := N_0

/-- The first ten points run the first pass. -/
theorem c1_of (t : Fin cfg0.N) : t.val < 10 → k0_cond1 (grid0.coords t) = 1#1 := by revert t; decide +kernel
/-- The later points do not run the first pass. -/
theorem c1_not (t : Fin cfg0.N) : 10 ≤ t.val → ¬ k0_cond1 (grid0.coords t) = 1#1 := by revert t; decide +kernel
/-- Points ten to fourteen run the second pass. -/
theorem c4_of (t : Fin cfg0.N) : 10 ≤ t.val → t.val < 15 → k0_cond4 (grid0.coords t) = 1#1 := by revert t; decide +kernel
/-- The first ten points do not run the second pass. -/
theorem c4_not_lo (t : Fin cfg0.N) : t.val < 10 → ¬ k0_cond4 (grid0.coords t) = 1#1 := by revert t; decide +kernel
/-- The last five points do not run the second pass. -/
theorem c4_not_hi (t : Fin cfg0.N) : 15 ≤ t.val → ¬ k0_cond4 (grid0.coords t) = 1#1 := by revert t; decide +kernel
/-- The last five points run the last pass. -/
theorem c7_of (t : Fin cfg0.N) : 15 ≤ t.val → k0_cond7 (grid0.coords t) = 1#1 := by revert t; decide +kernel
/-- The first fifteen points do not run the last pass. -/
theorem c7_not (t : Fin cfg0.N) : t.val < 15 → ¬ k0_cond7 (grid0.coords t) = 1#1 := by revert t; decide +kernel
/-- A point of the first pass stores its thousand rows in turn. -/
theorem off1_0 (t : Fin cfg0.N) : k0_off1 (grid0.coords t) 0 = 1000 * t.val := by revert t; decide +kernel
/-- It stores whole rows. -/
theorem off1_1 (t : Fin cfg0.N) : k0_off1 (grid0.coords t) 1 = 0 := by revert t; decide +kernel
/-- A point of the second pass works on its two thousand rows in turn. -/
theorem off2_0 (t : Fin cfg0.N) : 10 ≤ t.val → t.val < 15 → k0_off2 (grid0.coords t) 0 = 2000 * (t.val - 10) := by revert t; decide +kernel
/-- It works on whole rows. -/
theorem off2_1 (t : Fin cfg0.N) : k0_off2 (grid0.coords t) 1 = 0 := by revert t; decide +kernel
/-- A point of the last pass reads its two thousand rows in turn. -/
theorem off3_0 (t : Fin cfg0.N) : 15 ≤ t.val → k0_off3 (grid0.coords t) 0 = 2000 * (t.val - 15) := by revert t; decide +kernel
/-- It reads whole rows. -/
theorem off3_1 (t : Fin cfg0.N) : k0_off3 (grid0.coords t) 1 = 0 := by revert t; decide +kernel
/-- The first point starts the first running sums. -/
theorem e0_of (t : Fin cfg0.N) : t.val = 0 →
    Scalar.cmpi .ne (Scalar.extui (Scalar.cmpi .eq (BitVec.ofNat 32 ((grid0.coords t) 0).val) 0#32)) 0#32 = 1#1 := by revert t; decide +kernel
/-- No other point starts them. -/
theorem e0_not (t : Fin cfg0.N) : t.val ≠ 0 →
    ¬ Scalar.cmpi .ne (Scalar.extui (Scalar.cmpi .eq (BitVec.ofNat 32 ((grid0.coords t) 0).val) 0#32)) 0#32 = 1#1 := by revert t; decide +kernel
/-- Every point but the first adds to what is there. -/
theorem g0_of (t : Fin cfg0.N) : t.val ≠ 0 →
    Scalar.cmpi .ne (Scalar.extui (Scalar.cmpi .sgt (BitVec.ofNat 32 ((grid0.coords t) 0).val) 0#32)) 0#32 = 1#1 := by revert t; decide +kernel
/-- The first point adds to nothing. -/
theorem g0_not (t : Fin cfg0.N) : t.val = 0 →
    ¬ Scalar.cmpi .ne (Scalar.extui (Scalar.cmpi .sgt (BitVec.ofNat 32 ((grid0.coords t) 0).val) 0#32)) 0#32 = 1#1 := by revert t; decide +kernel
/-- Point ten starts the second running sums. -/
theorem e10_of (t : Fin cfg0.N) : t.val = 10 →
    Scalar.cmpi .ne (Scalar.extui (Scalar.cmpi .eq (Scalar.subi (BitVec.ofNat 32 ((grid0.coords t) 0).val) 10#32) 0#32)) 0#32 = 1#1 := by revert t; decide +kernel
/-- No later point starts them. -/
theorem e10_not (t : Fin cfg0.N) : 10 < t.val →
    ¬ Scalar.cmpi .ne (Scalar.extui (Scalar.cmpi .eq (Scalar.subi (BitVec.ofNat 32 ((grid0.coords t) 0).val) 10#32) 0#32)) 0#32 = 1#1 := by revert t; decide +kernel
/-- Every later point adds to what is there. -/
theorem g10_of (t : Fin cfg0.N) : 10 < t.val →
    Scalar.cmpi .ne (Scalar.extui (Scalar.cmpi .sgt (Scalar.subi (BitVec.ofNat 32 ((grid0.coords t) 0).val) 10#32) 0#32)) 0#32 = 1#1 := by revert t; decide +kernel
/-- Point ten adds to nothing. -/
theorem g10_not (t : Fin cfg0.N) : t.val = 10 →
    ¬ Scalar.cmpi .ne (Scalar.extui (Scalar.cmpi .sgt (Scalar.subi (BitVec.ofNat 32 ((grid0.coords t) 0).val) 10#32) 0#32)) 0#32 = 1#1 := by revert t; decide +kernel

/-! ## The input blocks -/

/-- The grid point numbered `n` (the last one beyond the grid). -/
def pt (n : ℕ) : Fin cfg0.N := ⟨min n 19, by rw [N20]; omega⟩

/-- A point is the one of its own number. -/
theorem pt_val (t : Fin cfg0.N) : pt t.val = t := by
  have : t.val < 20 := lt_of_lt_of_eq t.isLt N20
  apply Fin.ext; show min t.val 19 = t.val; omega

/-- The thousand rows of features of point `n`. -/
def bX (c : Dev nD) (n : ℕ) : Vec F S1000x256 .f32 := iblk m c 0 (pt n)
/-- The sixteen thousand rows of neighbours of point `n`. -/
def bNb (c : Dev nD) (n : ℕ) : Vec F S16000x256 .f32 := iblk m c 1 (pt n)
/-- The first layer's own weights. -/
def bW1x (c : Dev nD) : Vec F S256x128 .f32 := iblk m c 2 (pt 0)
/-- The first layer's neighbour weights. -/
def bW1n (c : Dev nD) : Vec F S256x128 .f32 := iblk m c 3 (pt 0)
/-- The second layer's own weights. -/
def bW2x (c : Dev nD) : Vec F S128x128 .f32 := iblk m c 4 (pt 0)
/-- The second layer's neighbour weights. -/
def bW2n (c : Dev nD) : Vec F S128x128 .f32 := iblk m c 5 (pt 0)
/-- The classifier's weights. -/
def bWc (c : Dev nD) : Vec F S128x40 .f32 := iblk m c 6 (pt 0)
/-- The classifier's bias. -/
def bBc (c : Dev nD) : Vec F S1x40 .f32 := iblk m c 7 (pt 0)
/-- The first scale. -/
def bg1 (c : Dev nD) : Vec F S1x1 .f32 := iblk m c 8 (pt 0)
/-- The first shift. -/
def bb1 (c : Dev nD) : Vec F S1x1 .f32 := iblk m c 9 (pt 0)
/-- The second scale. -/
def bg2 (c : Dev nD) : Vec F S1x1 .f32 := iblk m c 10 (pt 0)
/-- The second shift. -/
def bb2 (c : Dev nD) : Vec F S1x1 .f32 := iblk m c 11 (pt 0)

/-- The first window holds the features of the point. -/
theorem iX (c : Dev nD) (t : Fin cfg0.N) : iblk m c 0 t = bX m c t.val := by unfold bX; rw [pt_val]
/-- The second window holds the neighbours of the point. -/
theorem iNb (c : Dev nD) (t : Fin cfg0.N) : iblk m c 1 t = bNb m c t.val := by unfold bNb; rw [pt_val]
/-- This window holds the same array at every point: the first layer's own weights. -/
theorem iW1x (c : Dev nD) (t : Fin cfg0.N) : iblk m c 2 t = bW1x m c := rfl
/-- This window holds the same array at every point: the first layer's neighbour weights. -/
theorem iW1n (c : Dev nD) (t : Fin cfg0.N) : iblk m c 3 t = bW1n m c := rfl
/-- This window holds the same array at every point: the second layer's own weights. -/
theorem iW2x (c : Dev nD) (t : Fin cfg0.N) : iblk m c 4 t = bW2x m c := rfl
/-- This window holds the same array at every point: the second layer's neighbour weights. -/
theorem iW2n (c : Dev nD) (t : Fin cfg0.N) : iblk m c 5 t = bW2n m c := rfl
/-- This window holds the same array at every point: the classifier's weights. -/
theorem iWc (c : Dev nD) (t : Fin cfg0.N) : iblk m c 6 t = bWc m c := rfl
/-- This window holds the same array at every point: the classifier's bias. -/
theorem iBc (c : Dev nD) (t : Fin cfg0.N) : iblk m c 7 t = bBc m c := rfl
/-- This window holds the same array at every point: the first scale. -/
theorem ig1 (c : Dev nD) (t : Fin cfg0.N) : iblk m c 8 t = bg1 m c := rfl
/-- This window holds the same array at every point: the first shift. -/
theorem ib1 (c : Dev nD) (t : Fin cfg0.N) : iblk m c 9 t = bb1 m c := rfl
/-- This window holds the same array at every point: the second scale. -/
theorem ig2 (c : Dev nD) (t : Fin cfg0.N) : iblk m c 10 t = bg2 m c := rfl
/-- This window holds the same array at every point: the second shift. -/
theorem ib2 (c : Dev nD) (t : Fin cfg0.N) : iblk m c 11 t = bb2 m c := rfl

/-! ## What the scratch buffers come to hold -/

/-- The first layer's product, the thousand rows of point `n`. -/
def x1blk (c : Dev nD) (n : ℕ) : Vec F S1000x128 .f32 :=
  k0_pay2 (k0_pay19 (bW1x m c)) (k0_pay21 (bNb m c n)) (bX m c n) (bW1n m c)

/-- The neighbours' normalised mean, the thousand rows of point `n`. -/
def f2blk (c : Dev nD) (n : ℕ) : Vec F S1000x128 .f32 :=
  k0_pay20 (sc (bg1 m c)) (sc (bb1 m c)) (bNb m c n) (bW1x m c)

/-- Rows in blocks of a thousand, as one array. -/
def glue1 (f : ℕ → Vec F S1000x128 .f32) : Vec F S10000x128 .f32 := fun idx =>
  f ((idx 0).val / 1000) (ix2 ⟨(idx 0).val % 1000, Nat.mod_lt _ (by decide)⟩ (idx 1))

/-- Rows in blocks of two thousand, as one array. -/
def glue2 (f : ℕ → Vec F S2000x128 .f32) : Vec F S10000x128 .f32 := fun idx =>
  f ((idx 0).val / 2000) (ix2 ⟨(idx 0).val % 2000, Nat.mod_lt _ (by decide)⟩ (idx 1))

/-- The rows of block `n` of an array. -/
def cut2 (G : Vec F S10000x128 .f32) (n : ℕ) : Vec F S2000x128 .f32 := fun j =>
  G (ix2 ⟨(2000 * n + (j 0).val) % 10000, Nat.mod_lt _ (by decide)⟩ (j 1))

/-- The running sum of the first product's rows, eight rows wide, after point `n`. -/
def sum1 (c : Dev nD) : ℕ → Vec F S8x128 .f32
  | 0 => k0_pay5 (k0_pay19 (bW1x m c)) (k0_pay21 (bNb m c 0)) (bX m c 0) (bW1n m c)
  | n + 1 => k0_pay7 (k0_pay19 (bW1x m c)) (k0_pay21 (bNb m c (n + 1))) (bX m c (n + 1)) (bW1n m c) (sum1 c n)

/-- The running sum of its squares. -/
def sq1 (c : Dev nD) : ℕ → Vec F S8x128 .f32
  | 0 => k0_pay6 (k0_pay19 (bW1x m c)) (k0_pay21 (bNb m c 0)) (bX m c 0) (bW1n m c)
  | n + 1 => k0_pay8 (k0_pay19 (bW1x m c)) (k0_pay21 (bNb m c (n + 1))) (bX m c (n + 1)) (bW1n m c) (sq1 c n)

/-- The second layer's own half, the two thousand rows of point `10 + n`. -/
def own2 (c : Dev nD) (n : ℕ) : FVec F S2000x128 .f32 :=
  k0_pay22 (sc (bg1 m c)) (sc (bb1 m c)) (sum1 m c 9) (sq1 m c 9) (cut2 (glue1 (x1blk m c)) n) (bW2x m c)

/-- The second layer's neighbour half. -/
def nbr2 (c : Dev nD) (n : ℕ) : FVec F S2000x128 .f32 :=
  k0_pay23 (cut2 (glue1 (f2blk m c)) n) (bW2n m c)

/-- The second layer, block `n`. -/
def x2blk (c : Dev nD) (n : ℕ) : Vec F S2000x128 .f32 := k0_pay10 (own2 m c n) (nbr2 m c n)

/-- The running sum of the second layer's rows. -/
def sum2 (c : Dev nD) : ℕ → Vec F S8x128 .f32
  | 0 => k0_pay13 (own2 m c 0) (nbr2 m c 0)
  | n + 1 => k0_pay15 (own2 m c (n + 1)) (nbr2 m c (n + 1)) (sum2 c n)

/-- The running sum of its squares. -/
def sq2 (c : Dev nD) : ℕ → Vec F S8x128 .f32
  | 0 => k0_pay14 (own2 m c 0) (nbr2 m c 0)
  | n + 1 => k0_pay16 (own2 m c (n + 1)) (nbr2 m c (n + 1)) (sq2 c n)

/-- The result, the two thousand rows of point `15 + n`. -/
def outblk (c : Dev nD) (n : ℕ) : Vec F S2000x40 .f32 :=
  k0_pay17 (k0_pay24 (sum2 m c 4) (sq2 m c 4) (sc (bg2 m c)) (sc (bb2 m c)) (cut2 (glue2 (x2blk m c)) n) (bWc m c)) (bBc m c)

/-! ## What is known of the scratch buffers after `n` points -/

/-- After `n` points: the rows stored so far, and the running sums so far. -/
structure Know (c : Dev nD) (n : ℕ) (y0 y1 y2 : Vec F S10000x128 .f32) (s1 q1 s2 q2 : Vec F S8x128 .f32) : Prop where
  x1 : ∀ idx : S10000x128.Idx, (idx 0).val < 1000 * min n 10 → y0 idx = glue1 (x1blk m c) idx
  f2 : ∀ idx : S10000x128.Idx, (idx 0).val < 1000 * min n 10 → y1 idx = glue1 (f2blk m c) idx
  s1 : 1 ≤ n → s1 = sum1 m c (min n 10 - 1)
  q1 : 1 ≤ n → q1 = sq1 m c (min n 10 - 1)
  x2 : ∀ idx : S10000x128.Idx, (idx 0).val < 2000 * min (n - 10) 5 → y2 idx = glue2 (x2blk m c) idx
  s2 : 11 ≤ n → s2 = sum2 m c (min (n - 10) 5 - 1)
  q2 : 11 ≤ n → q2 = sq2 m c (min (n - 10) 5 - 1)

/-- 1000 rows laid over an array that agrees with `G` above them agree with `G` up to their end. -/
theorem overlay_rows1 (off : Fin 2 → ℕ) (inb : ∀ a, off a + S1000x128.size a ≤ S10000x128.size a) (k : ℕ)
    (h0 : off 0 = 1000 * k) (h1 : off 1 = 0) (y G : Vec F S10000x128 .f32) (w : Vec F S1000x128 .f32)
    (hy : ∀ idx : S10000x128.Idx, (idx 0).val < 1000 * k → y idx = G idx)
    (hw : ∀ (j : S1000x128.Idx) (idx : S10000x128.Idx), (idx 0).val = 1000 * k + (j 0).val → (idx 1).val = (j 1).val → w j = G idx)
    (idx : S10000x128.Idx) (hi : (idx 0).val < 1000 * (k + 1)) :
    (Rect.unit (s := S10000x128) off S1000x128.size inb).overlay y w idx = G idx := by
  by_cases hlt : (idx 0).val < 1000 * k
  · rw [Rect.overlay_of_not_mem _ _ _ (by
      intro hm
      have := (Rect.mem_set_unit.mp hm 0).1
      rw [h0] at this; omega)]
    exact hy idx hlt
  · have hb : (idx 0).val - 1000 * k < 1000 := by omega
    obtain ⟨j, hj⟩ : ∃ j : S1000x128.Idx, idx = (Rect.unit (s := S10000x128) off S1000x128.size inb).emb j := by
      refine ⟨ix2 ⟨(idx 0).val - 1000 * k, hb⟩ ⟨(idx 1).val, (idx 1).isLt⟩, ?_⟩
      funext a; apply Fin.ext
      match a with
      | ⟨0, _⟩ => show (idx 0).val = off 0 + 1 * ((idx 0).val - 1000 * k); rw [h0]; omega
      | ⟨1, _⟩ => show (idx 1).val = off 1 + 1 * (idx 1).val; rw [h1]; omega
    have e0 : (idx 0).val = 1000 * k + (j 0).val := by
      have : (idx 0).val = off 0 + 1 * (j 0).val := by rw [hj]; rfl
      omega
    have e1 : (idx 1).val = (j 1).val := by
      have : (idx 1).val = off 1 + 1 * (j 1).val := by rw [hj]; rfl
      omega
    rw [← hw j idx e0 e1, hj, Rect.overlay_emb]

/-- The blocks of `glue1 f` are `f`. -/
theorem glue1_at (f : ℕ → Vec F S1000x128 .f32) (k : ℕ) (j : S1000x128.Idx) (idx : S10000x128.Idx)
    (h0 : (idx 0).val = 1000 * k + (j 0).val) (h1 : (idx 1).val = (j 1).val) : f k j = glue1 f idx := by
  have hj : (j 0).val < 1000 := (j 0).isLt
  unfold glue1
  have hd : (idx 0).val / 1000 = k := by omega
  rw [hd]
  congr 1
  funext a; apply Fin.ext
  match a with
  | ⟨0, _⟩ => show (j 0).val = (idx 0).val % 1000; omega
  | ⟨1, _⟩ => show (j 1).val = (idx 1).val; omega

/-- 2000 rows laid over an array that agrees with `G` above them agree with `G` up to their end. -/
theorem overlay_rows2 (off : Fin 2 → ℕ) (inb : ∀ a, off a + S2000x128.size a ≤ S10000x128.size a) (k : ℕ)
    (h0 : off 0 = 2000 * k) (h1 : off 1 = 0) (y G : Vec F S10000x128 .f32) (w : Vec F S2000x128 .f32)
    (hy : ∀ idx : S10000x128.Idx, (idx 0).val < 2000 * k → y idx = G idx)
    (hw : ∀ (j : S2000x128.Idx) (idx : S10000x128.Idx), (idx 0).val = 2000 * k + (j 0).val → (idx 1).val = (j 1).val → w j = G idx)
    (idx : S10000x128.Idx) (hi : (idx 0).val < 2000 * (k + 1)) :
    (Rect.unit (s := S10000x128) off S2000x128.size inb).overlay y w idx = G idx := by
  by_cases hlt : (idx 0).val < 2000 * k
  · rw [Rect.overlay_of_not_mem _ _ _ (by
      intro hm
      have := (Rect.mem_set_unit.mp hm 0).1
      rw [h0] at this; omega)]
    exact hy idx hlt
  · have hb : (idx 0).val - 2000 * k < 2000 := by omega
    obtain ⟨j, hj⟩ : ∃ j : S2000x128.Idx, idx = (Rect.unit (s := S10000x128) off S2000x128.size inb).emb j := by
      refine ⟨ix2 ⟨(idx 0).val - 2000 * k, hb⟩ ⟨(idx 1).val, (idx 1).isLt⟩, ?_⟩
      funext a; apply Fin.ext
      match a with
      | ⟨0, _⟩ => show (idx 0).val = off 0 + 1 * ((idx 0).val - 2000 * k); rw [h0]; omega
      | ⟨1, _⟩ => show (idx 1).val = off 1 + 1 * (idx 1).val; rw [h1]; omega
    have e0 : (idx 0).val = 2000 * k + (j 0).val := by
      have : (idx 0).val = off 0 + 1 * (j 0).val := by rw [hj]; rfl
      omega
    have e1 : (idx 1).val = (j 1).val := by
      have : (idx 1).val = off 1 + 1 * (j 1).val := by rw [hj]; rfl
      omega
    rw [← hw j idx e0 e1, hj, Rect.overlay_emb]

/-- The blocks of `glue2 f` are `f`. -/
theorem glue2_at (f : ℕ → Vec F S2000x128 .f32) (k : ℕ) (j : S2000x128.Idx) (idx : S10000x128.Idx)
    (h0 : (idx 0).val = 2000 * k + (j 0).val) (h1 : (idx 1).val = (j 1).val) : f k j = glue2 f idx := by
  have hj : (j 0).val < 2000 := (j 0).isLt
  unfold glue2
  have hd : (idx 0).val / 2000 = k := by omega
  rw [hd]
  congr 1
  funext a; apply Fin.ext
  match a with
  | ⟨0, _⟩ => show (j 0).val = (idx 0).val % 2000; omega
  | ⟨1, _⟩ => show (j 1).val = (idx 1).val; omega

/-- Two thousand rows loaded from row `2000 n` are block `n`. -/
theorem ld_rows (off : Fin 2 → ℕ) (inb : ∀ a, off a + S2000x128.size a ≤ S10000x128.size a) (n : ℕ)
    (h0 : off 0 = 2000 * n) (h1 : off 1 = 0) (G : Vec F S10000x128 .f32) :
    View.ld G (Rect.unit (s := S10000x128) off S2000x128.size inb) = cut2 G n := by
  funext j
  have hb : off 0 + 2000 ≤ 10000 := inb 0
  have hj : (j 0).val < 2000 := (j 0).isLt
  show G _ = G _
  congr 1
  funext a; apply Fin.ext
  match a with
  | ⟨0, _⟩ => show off 0 + 1 * (j 0).val = (2000 * n + (j 0).val) % 10000; omega
  | ⟨1, _⟩ => show off 1 + 1 * (j 1).val = (j 1).val; omega

section Step
variable {m} {c : Dev nD} {n : ℕ} {y0 y1 y2 : Vec F S10000x128 .f32} {s1 q1 s2 q2 : Vec F S8x128 .f32}

/-- Nothing is known before the first point. -/
theorem Know.zero : Know m c 0 y0 y1 y2 s1 q1 s2 q2 :=
  ⟨fun _ h => absurd h (by simp), fun _ h => absurd h (by simp), fun h => absurd h (by decide), fun h => absurd h (by decide),
    fun _ h => absurd h (by simp), fun h => absurd h (by decide), fun h => absurd h (by decide)⟩

/-- The stored rows of the first pass, all of them. -/
theorem Know.x1_all (h : Know m c n y0 y1 y2 s1 q1 s2 q2) (hn : 10 ≤ n) : y0 = glue1 (x1blk m c) :=
  funext fun idx => h.x1 idx (by have := (idx 0).isLt; rw [Nat.min_eq_right hn]; exact this)

/-- After the first pass every row of the neighbours' normalised mean is in place. -/
theorem Know.f2_all (h : Know m c n y0 y1 y2 s1 q1 s2 q2) (hn : 10 ≤ n) : y1 = glue1 (f2blk m c) :=
  funext fun idx => h.f2 idx (by have := (idx 0).isLt; rw [Nat.min_eq_right hn]; exact this)

/-- The stored rows of the second pass, all of them. -/
theorem Know.x2_all (h : Know m c n y0 y1 y2 s1 q1 s2 q2) (hn : 15 ≤ n) : y2 = glue2 (x2blk m c) :=
  funext fun idx => h.x2 idx (by have := (idx 0).isLt; rw [Nat.min_eq_right (by omega : 5 ≤ n - 10)]; exact this)

/-- One point of the first pass: its rows are stored and its sums are as the recursion says. -/
theorem Know.first (h : Know m c n y0 y1 y2 s1 q1 s2 q2) (hn : n < 10) (off : Fin 2 → ℕ)
    (inb : ∀ a, off a + S1000x128.size a ≤ S10000x128.size a) (h0 : off 0 = 1000 * n) (h1 : off 1 = 0)
    {s1' q1' : Vec F S8x128 .f32} (hs : s1' = sum1 m c n) (hq : q1' = sq1 m c n) :
    Know m c (n + 1) ((Rect.unit (s := S10000x128) off S1000x128.size inb).overlay y0 (x1blk m c n))
      ((Rect.unit (s := S10000x128) off S1000x128.size inb).overlay y1 (f2blk m c n)) y2 s1' q1' s2 q2 where
  x1 idx hi := overlay_rows1 off inb n h0 h1 _ _ _ (fun idx h' => h.x1 idx (by rw [Nat.min_eq_left (by omega)]; exact h'))
    (fun j idx a b => glue1_at _ n j idx a b) idx (by rw [Nat.min_eq_left (by omega)] at hi; exact hi)
  f2 idx hi := overlay_rows1 off inb n h0 h1 _ _ _ (fun idx h' => h.f2 idx (by rw [Nat.min_eq_left (by omega)]; exact h'))
    (fun j idx a b => glue1_at _ n j idx a b) idx (by rw [Nat.min_eq_left (by omega)] at hi; exact hi)
  s1 _ := by rw [hs, Nat.min_eq_left (by omega : n + 1 ≤ 10)]; rfl
  q1 _ := by rw [hq, Nat.min_eq_left (by omega : n + 1 ≤ 10)]; rfl
  x2 idx hi := by rw [show n + 1 - 10 = 0 by omega] at hi; exact absurd hi (by simp)
  s2 hh := absurd hh (by omega)
  q2 hh := absurd hh (by omega)

/-- One point of the second pass. -/
theorem Know.second (h : Know m c n y0 y1 y2 s1 q1 s2 q2) (hn : 10 ≤ n) (hn' : n < 15) (off : Fin 2 → ℕ)
    (inb : ∀ a, off a + S2000x128.size a ≤ S10000x128.size a) (h0 : off 0 = 2000 * (n - 10)) (h1 : off 1 = 0)
    {s2' q2' : Vec F S8x128 .f32} (hs : s2' = sum2 m c (n - 10)) (hq : q2' = sq2 m c (n - 10)) :
    Know m c (n + 1) y0 y1 ((Rect.unit (s := S10000x128) off S2000x128.size inb).overlay y2 (x2blk m c (n - 10))) s1 q1 s2' q2' where
  x1 idx hi := h.x1 idx (by rw [Nat.min_eq_right (by omega)] at hi ⊢; exact hi)
  f2 idx hi := h.f2 idx (by rw [Nat.min_eq_right (by omega)] at hi ⊢; exact hi)
  s1 _ := by rw [h.s1 (by omega), Nat.min_eq_right hn, Nat.min_eq_right (by omega : 10 ≤ n + 1)]
  q1 _ := by rw [h.q1 (by omega), Nat.min_eq_right hn, Nat.min_eq_right (by omega : 10 ≤ n + 1)]
  x2 idx hi := overlay_rows2 off inb (n - 10) h0 h1 _ _ _ (fun idx h' => h.x2 idx (by rw [Nat.min_eq_left (by omega)]; exact h'))
    (fun j idx a b => glue2_at _ (n - 10) j idx a b) idx
    (by rw [Nat.min_eq_left (by omega), show n + 1 - 10 = n - 10 + 1 by omega] at hi; exact hi)
  s2 _ := by rw [hs, Nat.min_eq_left (by omega : n + 1 - 10 ≤ 5), show n + 1 - 10 - 1 = n - 10 by omega]
  q2 _ := by rw [hq, Nat.min_eq_left (by omega : n + 1 - 10 ≤ 5), show n + 1 - 10 - 1 = n - 10 by omega]

/-- A point of the last pass stores nothing in the scratch. -/
theorem Know.third (h : Know m c n y0 y1 y2 s1 q1 s2 q2) (hn : 15 ≤ n) : Know m c (n + 1) y0 y1 y2 s1 q1 s2 q2 where
  x1 idx hi := h.x1 idx (by rw [Nat.min_eq_right (by omega)] at hi ⊢; exact hi)
  f2 idx hi := h.f2 idx (by rw [Nat.min_eq_right (by omega)] at hi ⊢; exact hi)
  s1 _ := by rw [h.s1 (by omega), Nat.min_eq_right (by omega : 10 ≤ n), Nat.min_eq_right (by omega : 10 ≤ n + 1)]
  q1 _ := by rw [h.q1 (by omega), Nat.min_eq_right (by omega : 10 ≤ n), Nat.min_eq_right (by omega : 10 ≤ n + 1)]
  x2 idx hi := h.x2 idx (by rw [Nat.min_eq_right (by omega)] at hi ⊢; exact hi)
  s2 _ := by rw [h.s2 (by omega), Nat.min_eq_right (by omega : 5 ≤ n - 10), Nat.min_eq_right (by omega : 5 ≤ n + 1 - 10)]
  q2 _ := by rw [h.q2 (by omega), Nat.min_eq_right (by omega : 5 ≤ n - 10), Nat.min_eq_right (by omega : 5 ≤ n + 1 - 10)]
end Step

end Cert.Proof.Ideal
-- ==== Proof.Ideal.Run.lean ====
/-
  The run of the kernel: the pipeline's proof data with the knowledge of the scratch buffers as its invariant, the body at
  every grid point, the launch, and the frame.
-/
module

public import proofs.«01_k».proof.Proof.Gen.KernelIdeal.Frame
public import proofs.«01_k».proof.Proof.Gen.KernelIdeal.Skeleton
public import proofs.«01_k».proof.Proof.Ideal.Track
public import Idealize.ShloMosaic.Lib.Claim
public import Idealize.ShloMosaic.Lib.Pipeline.Value

@[expose] public section

set_option maxRecDepth 16384

noncomputable section

namespace Cert.Proof.Ideal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant -/

/-- The scratch buffers after `n` points, at contents of which `Know` holds, and the generator register. -/
def Inv (c : Dev nD) (n : ℕ) : sProp 𝕄 :=
  iprop(∃ y0 y1 y2 s1 q1 s2 q2, ⌜Know m c n y0 y1 y2 s1 q1 s2 q2⌝
    ∗ owns (c : Thread nD τ) (Memref.whole cc0_scratch0) fullShare y0
    ∗ owns (c : Thread nD τ) (Memref.whole cc0_scratch1) fullShare y1
    ∗ owns (c : Thread nD τ) (Memref.whole cc0_scratch2) fullShare y2
    ∗ owns (c : Thread nD τ) (Memref.whole cc0_scratch3) fullShare s1
    ∗ owns (c : Thread nD τ) (Memref.whole cc0_scratch4) fullShare q1
    ∗ owns (c : Thread nD τ) (Memref.whole cc0_scratch5) fullShare s2
    ∗ owns (c : Thread nD τ) (Memref.whole cc0_scratch6) fullShare q2
    ∗ ∃ r, prngReg c r)

/-- Before the first point nothing need be known of the scratch. -/
theorem inv_in (c : Dev nD) : Pipeline.ΦA spec0 c ⊢ Inv m c 0 := by
  unfold Pipeline.ΦA Inv
  rw [scopedRest0_eq]
  simp only [← owns_whole]
  iintro ⟨⟨⟨%f0, H0⟩, ⟨%f1, H1⟩, ⟨%f2, H2⟩, ⟨%f3, H3⟩, ⟨%f4, H4⟩, ⟨%f5, H5⟩, ⟨%f6, H6⟩⟩, HR⟩
  iexists f0, f1, f2, f3, f4, f5, f6
  isplitr; · ipureintro; exact Know.zero
  isplitl [H0]; · iexact H0
  isplitl [H1]; · iexact H1
  isplitl [H2]; · iexact H2
  isplitl [H3]; · iexact H3
  isplitl [H4]; · iexact H4
  isplitl [H5]; · iexact H5
  isplitl [H6]; · iexact H6
  iexact HR

/-- At any point the scratch may be given back with what is known of it forgotten. -/
theorem inv_out (c : Dev nD) (n : ℕ) : Inv m c n ⊢ Pipeline.ΦA spec0 c := by
  unfold Pipeline.ΦA Inv
  rw [scopedRest0_eq]
  simp only [← owns_whole]
  iintro ⟨%f0, %f1, %f2, %f3, %f4, %f5, %f6, -, H0, H1, H2, H3, H4, H5, H6, HR⟩
  isplitr [HR]
  · isplitl [H0]; · iexists f0; iexact H0
    isplitl [H1]; · iexists f1; iexact H1
    isplitl [H2]; · iexists f2; iexact H2
    isplitl [H3]; · iexists f3; iexact H3
    isplitl [H4]; · iexists f4; iexact H4
    isplitl [H5]; · iexists f5; iexact H5
    iexists f6; iexact H6
  iexact HR

/-! ## The pipeline's proof data -/

/-- The proof data on core `c`: the arrays as the region finds them, each input's buffer left at its block, the result's
    at its block of the last pass, and the invariant `Inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outblk m c (t.val - 15)
  Φ t := Inv m c t.val
  q _ := fullShare
  owed _ := 0

/-- The data start from what the arrays hold when the call begins. -/
theorem A_eq (c : Dev nD) (w : Fin cfg0.W) : (dats m 0 c).A w = V m c (Pipeline.arrRef spec0 w) := by
  dsimp only [dats]

/-- The body leaves input window 0 as it found it. -/
theorem after0_0 (c : Dev nD) (t : Fin cfg0.N) : (dats m 0 c).after 0 t = iblk m c 0 t := by dsimp only [dats]
/-- The body leaves input window 1 as it found it. -/
theorem after0_1 (c : Dev nD) (t : Fin cfg0.N) : (dats m 0 c).after 1 t = iblk m c 1 t := by dsimp only [dats]
/-- The body leaves input window 2 as it found it. -/
theorem after0_2 (c : Dev nD) (t : Fin cfg0.N) : (dats m 0 c).after 2 t = iblk m c 2 t := by dsimp only [dats]
/-- The body leaves input window 3 as it found it. -/
theorem after0_3 (c : Dev nD) (t : Fin cfg0.N) : (dats m 0 c).after 3 t = iblk m c 3 t := by dsimp only [dats]
/-- The body leaves input window 4 as it found it. -/
theorem after0_4 (c : Dev nD) (t : Fin cfg0.N) : (dats m 0 c).after 4 t = iblk m c 4 t := by dsimp only [dats]
/-- The body leaves input window 5 as it found it. -/
theorem after0_5 (c : Dev nD) (t : Fin cfg0.N) : (dats m 0 c).after 5 t = iblk m c 5 t := by dsimp only [dats]
/-- The body leaves input window 6 as it found it. -/
theorem after0_6 (c : Dev nD) (t : Fin cfg0.N) : (dats m 0 c).after 6 t = iblk m c 6 t := by dsimp only [dats]
/-- The body leaves input window 7 as it found it. -/
theorem after0_7 (c : Dev nD) (t : Fin cfg0.N) : (dats m 0 c).after 7 t = iblk m c 7 t := by dsimp only [dats]
/-- The body leaves input window 8 as it found it. -/
theorem after0_8 (c : Dev nD) (t : Fin cfg0.N) : (dats m 0 c).after 8 t = iblk m c 8 t := by dsimp only [dats]
/-- The body leaves input window 9 as it found it. -/
theorem after0_9 (c : Dev nD) (t : Fin cfg0.N) : (dats m 0 c).after 9 t = iblk m c 9 t := by dsimp only [dats]
/-- The body leaves input window 10 as it found it. -/
theorem after0_10 (c : Dev nD) (t : Fin cfg0.N) : (dats m 0 c).after 10 t = iblk m c 10 t := by dsimp only [dats]
/-- The body leaves input window 11 as it found it. -/
theorem after0_11 (c : Dev nD) (t : Fin cfg0.N) : (dats m 0 c).after 11 t = iblk m c 11 t := by dsimp only [dats]
/-- A point of the last pass leaves its block of class scores in the result window. -/
theorem after0_12 (c : Dev nD) (t : Fin cfg0.N) : (dats m 0 c).after 12 t = outblk m c (t.val - 15) := by dsimp only [dats]

/-- Before the body, input window 0 holds its block. -/
theorem before0_0 (c : Dev nD) (t : Fin cfg0.N) (d) : (dats m 0 c).before 0 t d = iblk m c 0 t :=
  before0_0_of m (dats m 0 c) (A_eq m c 0) (after0_0 m c) t d
/-- Before the body, input window 1 holds its block. -/
theorem before0_1 (c : Dev nD) (t : Fin cfg0.N) (d) : (dats m 0 c).before 1 t d = iblk m c 1 t :=
  before0_1_of m (dats m 0 c) (A_eq m c 1) (after0_1 m c) t d
/-- Before the body, input window 2 holds its block. -/
theorem before0_2 (c : Dev nD) (t : Fin cfg0.N) (d) : (dats m 0 c).before 2 t d = iblk m c 2 t :=
  before0_2_of m (dats m 0 c) (A_eq m c 2) (after0_2 m c) t d
/-- Before the body, input window 3 holds its block. -/
theorem before0_3 (c : Dev nD) (t : Fin cfg0.N) (d) : (dats m 0 c).before 3 t d = iblk m c 3 t :=
  before0_3_of m (dats m 0 c) (A_eq m c 3) (after0_3 m c) t d
/-- Before the body, input window 4 holds its block. -/
theorem before0_4 (c : Dev nD) (t : Fin cfg0.N) (d) : (dats m 0 c).before 4 t d = iblk m c 4 t :=
  before0_4_of m (dats m 0 c) (A_eq m c 4) (after0_4 m c) t d
/-- Before the body, input window 5 holds its block. -/
theorem before0_5 (c : Dev nD) (t : Fin cfg0.N) (d) : (dats m 0 c).before 5 t d = iblk m c 5 t :=
  before0_5_of m (dats m 0 c) (A_eq m c 5) (after0_5 m c) t d
/-- Before the body, input window 6 holds its block. -/
theorem before0_6 (c : Dev nD) (t : Fin cfg0.N) (d) : (dats m 0 c).before 6 t d = iblk m c 6 t :=
  before0_6_of m (dats m 0 c) (A_eq m c 6) (after0_6 m c) t d
/-- Before the body, input window 7 holds its block. -/
theorem before0_7 (c : Dev nD) (t : Fin cfg0.N) (d) : (dats m 0 c).before 7 t d = iblk m c 7 t :=
  before0_7_of m (dats m 0 c) (A_eq m c 7) (after0_7 m c) t d
/-- Before the body, input window 8 holds its block. -/
theorem before0_8 (c : Dev nD) (t : Fin cfg0.N) (d) : (dats m 0 c).before 8 t d = iblk m c 8 t :=
  before0_8_of m (dats m 0 c) (A_eq m c 8) (after0_8 m c) t d
/-- Before the body, input window 9 holds its block. -/
theorem before0_9 (c : Dev nD) (t : Fin cfg0.N) (d) : (dats m 0 c).before 9 t d = iblk m c 9 t :=
  before0_9_of m (dats m 0 c) (A_eq m c 9) (after0_9 m c) t d
/-- Before the body, input window 10 holds its block. -/
theorem before0_10 (c : Dev nD) (t : Fin cfg0.N) (d) : (dats m 0 c).before 10 t d = iblk m c 10 t :=
  before0_10_of m (dats m 0 c) (A_eq m c 10) (after0_10 m c) t d
/-- Before the body, input window 11 holds its block. -/
theorem before0_11 (c : Dev nD) (t : Fin cfg0.N) (d) : (dats m 0 c).before 11 t d = iblk m c 11 t :=
  before0_11_of m (dats m 0 c) (A_eq m c 11) (after0_11 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (dats m 0 c).leavesExact 12 t)

/-- Before the last pass the result window is idle. -/
theorem idle_lo (t : Fin cfg0.N) : t.val < 15 → cfg0.idle 12 (cfg0.grid.coords t) = true := by revert t; decide +kernel
/-- In the last pass it is not. -/
theorem idle_hi (t : Fin cfg0.N) : 15 ≤ t.val → cfg0.idle 12 (cfg0.grid.coords t) = false := by revert t; decide +kernel
/-- Before the last pass nothing of the result is written back. -/
theorem flush_lo (t : Fin cfg0.N) : t.val < 15 → (cfg0.win 12).flush t = false := by revert t; decide +kernel

/-- Before the last pass the result's buffer is handed back as it was found, -/
theorem leaves_lo (c : Dev nD) (t : Fin cfg0.N) (h : t.val < 15) : (dats m 0 c).leavesExact 12 t
    = iprop(∃ d, owns (c : Thread nD τ) (st0_12 t) fullShare ((dats m 0 c).before 12 t d)) :=
  (dats m 0 c).leavesExact_idle 12 t (idle_lo t h) (flush_lo t h)

/-- and in the last pass at its block. -/
theorem leaves_hi (c : Dev nD) (t : Fin cfg0.N) (h : 15 ≤ t.val) : (dats m 0 c).leavesExact 12 t
    = owns (c : Thread nD τ) (st0_12 t) fullShare ((dats m 0 c).after 12 t) := by
  unfold Dat.leavesExact; rw [idle_hi t h]

/-- The first point of the first pass. -/
theorem body_first (c : Dev nD) (t : Fin cfg0.N) (ht : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11,
    show (dats m 0 c).Φ t.castSucc = Inv m c t.val from rfl, show (dats m 0 c).Φ t.succ = Inv m c (t.val + 1) from rfl, leaves_lo m c t (by omega)]
  simp only [iX, iNb, iW1x, iW1n, iW2x, iW2n, iWc, iBc, ig1, ib1, ig2, ib2]
  unfold Inv
  iintro ⟨⟨%y0, %y1, %y2, %s1, %q1, %s2, %q2, %hk, H14, H15, H16, H17, H18, H19, H20, HR⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_first c Set.univ (grid0.coords t) _ _ _ _ _ _ _ _ _ _ _ _ _ _ _ _ _ _ _ _ _ _ _ _ _ _ _ _ _ _ _ _ _ _ _ _ _ _ _ _ (c1_of t (by omega)) (c4_not_lo t (by omega)) (c7_not t (by omega)) (e0_of t ht) (g0_not t ht)
    (bX m c t.val) (bNb m c t.val) (bW1x m c) (bW1n m c) (bW2x m c) (bW2n m c) (bWc m c) (bBc m c) (bg1 m c) (bb1 m c) (bg2 m c) (bb2 m c) ((dats m 0 c).before 12 t d13) y0 y1 y2 s1 q1 s2 q2 _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H1, H2, H3, H4, H5, H6, H7, H8, H9, H10, H11, H12, H13, H14, H15, H16, H17, H18, H19, H20⟩
  isplitl [HR H14 H15 H16 H17 H18 H19 H20]
  · iexists _, _, _, _, _, _, _
    isplitr
    swap
    · isplitl [H14]; · iexact H14
      isplitl [H15]; · iexact H15
      isplitl [H16]; · iexact H16
      isplitl [H17]; · iexact H17
      isplitl [H18]; · iexact H18
      isplitl [H19]; · iexact H19
      isplitl [H20]; · iexact H20
      iexact HR
    ipureintro
    exact hk.first (by omega) _ _ (off1_0 t) (off1_1 t) (by rw [ht]; rfl) (by rw [ht]; rfl)
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists d13; iexact H13

/-- A later point of the first pass. -/
theorem body_later (c : Dev nD) (t : Fin cfg0.N) (ht : t.val ≠ 0) (hl : t.val < 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11,
    show (dats m 0 c).Φ t.castSucc = Inv m c t.val from rfl, show (dats m 0 c).Φ t.succ = Inv m c (t.val + 1) from rfl, leaves_lo m c t (by omega)]
  simp only [iX, iNb, iW1x, iW1n, iW2x, iW2n, iWc, iBc, ig1, ib1, ig2, ib2]
  unfold Inv
  iintro ⟨⟨%y0, %y1, %y2, %s1, %q1, %s2, %q2, %hk, H14, H15, H16, H17, H18, H19, H20, HR⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run_later c Set.univ (grid0.coords t) _ _ _ _ _ _ _ _ _ _ _ _ _ _ _ _ _ _ _ _ _ _ _ _ _ _ _ _ _ _ _ _ _ _ _ _ _ _ _ _ (c1_of t (by omega)) (c4_not_lo t (by omega)) (c7_not t (by omega)) (e0_not t ht) (g0_of t ht)
    (bX m c t.val) (bNb m c t.val) (bW1x m c) (bW1n m c) (bW2x m c) (bW2n m c) (bWc m c) (bBc m c) (bg1 m c) (bb1 m c) (bg2 m c) (bb2 m c) ((dats m 0 c).before 12 t d13) y0 y1 y2 s1 q1 s2 q2 _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H1, H2, H3, H4, H5, H6, H7, H8, H9, H10, H11, H12, H13, H14, H15, H16, H17, H18, H19, H20⟩
  isplitl [HR H14 H15 H16 H17 H18 H19 H20]
  · iexists _, _, _, _, _, _, _
    isplitr
    swap
    · isplitl [H14]; · iexact H14
      isplitl [H15]; · iexact H15
      isplitl [H16]; · iexact H16
      isplitl [H17]; · iexact H17
      isplitl [H18]; · iexact H18
      isplitl [H19]; · iexact H19
      isplitl [H20]; · iexact H20
      iexact HR
    ipureintro
    obtain ⟨n, hn⟩ : ∃ n, t.val = n + 1 := ⟨t.val - 1, by omega⟩
    refine hk.first (by omega) _ _ (off1_0 t) (off1_1 t) ?_ ?_
    · rw [hk.s1 (by omega), Nat.min_eq_left (by omega), hn]; rfl
    · rw [hk.q1 (by omega), Nat.min_eq_left (by omega), hn]; rfl
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists d13; iexact H13

/-- The first point of the second pass. -/
theorem body_mid (c : Dev nD) (t : Fin cfg0.N) (ht : t.val = 10) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11,
    show (dats m 0 c).Φ t.castSucc = Inv m c t.val from rfl, show (dats m 0 c).Φ t.succ = Inv m c (t.val + 1) from rfl, leaves_lo m c t (by omega)]
  simp only [iX, iNb, iW1x, iW1n, iW2x, iW2n, iWc, iBc, ig1, ib1, ig2, ib2]
  unfold Inv
  iintro ⟨⟨%y0, %y1, %y2, %s1, %q1, %s2, %q2, %hk, H14, H15, H16, H17, H18, H19, H20, HR⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have e1 := hk.s1 (by omega)
  have e2 := hk.q1 (by omega)
  have e3 := hk.x1_all (by omega)
  have e4 := hk.f2_all (by omega)
  rw [Nat.min_eq_right (by omega)] at e1 e2
  have er (G : Vec F S10000x128 .f32) : View.ld G (rows2 (grid0.coords t) (c4_of t (by omega) (by omega))) = cut2 G (t.val - 10) :=
    ld_rows _ _ (t.val - 10) (off2_0 t (by omega) (by omega)) (off2_1 t) G
  iapply (run_mid c Set.univ (grid0.coords t) _ _ _ _ _ _ _ _ _ _ _ _ _ _ _ _ _ _ _ _ _ _ _ _ _ _ _ _ _ _ _ _ _ _ _ _ _ _ _ _ (c1_not t (by omega)) (c4_of t (by omega) (by omega)) (c7_not t (by omega)) (e10_of t ht) (g10_not t ht)
    (bX m c t.val) (bNb m c t.val) (bW1x m c) (bW1n m c) (bW2x m c) (bW2n m c) (bWc m c) (bBc m c) (bg1 m c) (bb1 m c) (bg2 m c) (bb2 m c) ((dats m 0 c).before 12 t d13) y0 y1 y2 s1 q1 s2 q2 _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H1, H2, H3, H4, H5, H6, H7, H8, H9, H10, H11, H12, H13, H14, H15, H16, H17, H18, H19, H20⟩
  isplitl [HR H14 H15 H16 H17 H18 H19 H20]
  · iexists _, _, _, _, _, _, _
    isplitr
    swap
    · isplitl [H14]; · iexact H14
      isplitl [H15]; · iexact H15
      isplitl [H16]; · iexact H16
      isplitl [H17]; · iexact H17
      isplitl [H18]; · iexact H18
      isplitl [H19]; · iexact H19
      isplitl [H20]; · iexact H20
      iexact HR
    ipureintro
    rw [er, er]
    have hx : k0_pay10 (k0_pay22 (sc (bg1 m c)) (sc (bb1 m c)) s1 q1 (cut2 y0 (t.val - 10)) (bW2x m c)) (k0_pay23 (cut2 y1 (t.val - 10)) (bW2n m c))
        = x2blk m c (t.val - 10) := by rw [e1, e2, e3, e4]; rfl
    rw [hx]
    refine hk.second (by omega) (by omega) _ _ (off2_0 t (by omega) (by omega)) (off2_1 t) ?_ ?_
    · rw [e1, e2, e3, e4, ht]; rfl
    · rw [e1, e2, e3, e4, ht]; rfl
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists d13; iexact H13

/-- A later point of the second pass. -/
theorem body_mid_later (c : Dev nD) (t : Fin cfg0.N) (ht : 10 < t.val) (hl : t.val < 15) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11,
    show (dats m 0 c).Φ t.castSucc = Inv m c t.val from rfl, show (dats m 0 c).Φ t.succ = Inv m c (t.val + 1) from rfl, leaves_lo m c t (by omega)]
  simp only [iX, iNb, iW1x, iW1n, iW2x, iW2n, iWc, iBc, ig1, ib1, ig2, ib2]
  unfold Inv
  iintro ⟨⟨%y0, %y1, %y2, %s1, %q1, %s2, %q2, %hk, H14, H15, H16, H17, H18, H19, H20, HR⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have e1 := hk.s1 (by omega)
  have e2 := hk.q1 (by omega)
  have e3 := hk.x1_all (by omega)
  have e4 := hk.f2_all (by omega)
  rw [Nat.min_eq_right (by omega)] at e1 e2
  have er (G : Vec F S10000x128 .f32) : View.ld G (rows2 (grid0.coords t) (c4_of t (by omega) (by omega))) = cut2 G (t.val - 10) :=
    ld_rows _ _ (t.val - 10) (off2_0 t (by omega) (by omega)) (off2_1 t) G
  iapply (run_mid_later c Set.univ (grid0.coords t) _ _ _ _ _ _ _ _ _ _ _ _ _ _ _ _ _ _ _ _ _ _ _ _ _ _ _ _ _ _ _ _ _ _ _ _ _ _ _ _ (c1_not t (by omega)) (c4_of t (by omega) (by omega)) (c7_not t (by omega)) (e10_not t ht) (g10_of t ht)
    (bX m c t.val) (bNb m c t.val) (bW1x m c) (bW1n m c) (bW2x m c) (bW2n m c) (bWc m c) (bBc m c) (bg1 m c) (bb1 m c) (bg2 m c) (bb2 m c) ((dats m 0 c).before 12 t d13) y0 y1 y2 s1 q1 s2 q2 _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H1, H2, H3, H4, H5, H6, H7, H8, H9, H10, H11, H12, H13, H14, H15, H16, H17, H18, H19, H20⟩
  isplitl [HR H14 H15 H16 H17 H18 H19 H20]
  · iexists _, _, _, _, _, _, _
    isplitr
    swap
    · isplitl [H14]; · iexact H14
      isplitl [H15]; · iexact H15
      isplitl [H16]; · iexact H16
      isplitl [H17]; · iexact H17
      isplitl [H18]; · iexact H18
      isplitl [H19]; · iexact H19
      isplitl [H20]; · iexact H20
      iexact HR
    ipureintro
    rw [er, er]
    have hx : k0_pay10 (k0_pay22 (sc (bg1 m c)) (sc (bb1 m c)) s1 q1 (cut2 y0 (t.val - 10)) (bW2x m c)) (k0_pay23 (cut2 y1 (t.val - 10)) (bW2n m c))
        = x2blk m c (t.val - 10) := by rw [e1, e2, e3, e4]; rfl
    rw [hx]
    obtain ⟨n, hn⟩ : ∃ n, t.val - 10 = n + 1 := ⟨t.val - 11, by omega⟩
    refine hk.second (by omega) (by omega) _ _ (off2_0 t (by omega) (by omega)) (off2_1 t) ?_ ?_
    · rw [hk.s2 (by omega), Nat.min_eq_left (by omega), e1, e2, e3, e4, hn]; rfl
    · rw [hk.q2 (by omega), Nat.min_eq_left (by omega), e1, e2, e3, e4, hn]; rfl
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists d13; iexact H13

/-- A point of the last pass. -/
theorem body_last (c : Dev nD) (t : Fin cfg0.N) (ht : 15 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11,
    show (dats m 0 c).Φ t.castSucc = Inv m c t.val from rfl, show (dats m 0 c).Φ t.succ = Inv m c (t.val + 1) from rfl, leaves_hi m c t ht]
  simp only [iX, iNb, iW1x, iW1n, iW2x, iW2n, iWc, iBc, ig1, ib1, ig2, ib2]
  unfold Inv
  iintro ⟨⟨%y0, %y1, %y2, %s1, %q1, %s2, %q2, %hk, H14, H15, H16, H17, H18, H19, H20, HR⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have e1 := hk.s2 (by omega)
  have e2 := hk.q2 (by omega)
  have e3 := hk.x2_all (by omega)
  rw [Nat.min_eq_right (by omega)] at e1 e2
  have er : View.ld y2 (rows3 (grid0.coords t) (c7_of t (by omega))) = cut2 (glue2 (x2blk m c)) (t.val - 15) := by
    rw [← e3]; exact ld_rows _ _ (t.val - 15) (off3_0 t (by omega)) (off3_1 t) y2
  iapply (run_last c Set.univ (grid0.coords t) _ _ _ _ _ _ _ _ _ _ _ _ _ _ _ _ _ _ _ _ _ _ _ _ _ _ _ _ _ _ _ _ _ _ _ _ _ _ _ _ (c1_not t (by omega)) (c4_not_hi t (by omega)) (c7_of t (by omega))
    (bX m c t.val) (bNb m c t.val) (bW1x m c) (bW1n m c) (bW2x m c) (bW2n m c) (bWc m c) (bBc m c) (bg1 m c) (bb1 m c) (bg2 m c) (bb2 m c) ((dats m 0 c).before 12 t d13) y0 y1 y2 s1 q1 s2 q2 _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro ⟨H1, H2, H3, H4, H5, H6, H7, H8, H9, H10, H11, H12, H13, H14, H15, H16, H17, H18, H19, H20⟩
  isplitl [HR H14 H15 H16 H17 H18 H19 H20]
  · iexists _, _, _, _, _, _, _
    isplitr
    swap
    · isplitl [H14]; · iexact H14
      isplitl [H15]; · iexact H15
      isplitl [H16]; · iexact H16
      isplitl [H17]; · iexact H17
      isplitl [H18]; · iexact H18
      isplitl [H19]; · iexact H19
      isplitl [H20]; · iexact H20
      iexact HR
    ipureintro
    exact hk.third ht
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  rw [after0_12, er, e1, e2]; iexact H13

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact body_first m c t h0
  by_cases h1 : t.val < 10
  · exact body_later m c t h0 h1
  by_cases h2 : t.val = 10
  · exact body_mid m c t h2
  by_cases h3 : t.val < 15
  · exact body_mid_later m c t (by omega) h3
  · exact body_last m c t (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every array of the pipeline ends at what the proof data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => inv_in m c) (hout := fun c => inv_out m c _)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_main_quiescent m ρ))

end Cert.Proof.Ideal
-- ==== Proof.Frames.lean ====
module

public import proofs.«01_k».proof.Defs
public import proofs.«01_k».proof.Proof.Gen.ReferenceIdeal.Run
public import proofs.«01_k».proof.Proof.Word.Run
public import proofs.«01_k».proof.Proof.Ideal.Run

/-! The three frames of the certificate. -/

@[expose] public section

namespace Cert.Proof

open Idealize.ShloMosaic Idealize.SL.Sem

/-- The kernel over machine words runs, keeps its arguments and leaves every counter at zero. -/
theorem frame_word : Cert.quiescent_Kernel (hKernel := Cert.Kernel.Gen.facts) :=
  fun m g _ => Cert.Proof.Word.frame m g

/-- The kernel over the extended reals runs, keeps its arguments and leaves every counter at zero. -/
theorem frame_ideal : Cert.quiescent_KernelIdeal (hKernelIdeal := Cert.KernelIdeal.Gen.facts) :=
  fun m g _ => Cert.Proof.Ideal.frame m g

/-- The reference over the extended reals runs, keeps its arguments and leaves every counter at zero. -/
theorem frame_reference : Cert.quiescent_ReferenceIdeal (hReferenceIdeal := Cert.ReferenceIdeal.Gen.facts) :=
  fun m g _ => (θ_run Cert.ReferenceIdeal.defs _ _).mono
    (fun r h => ⟨fun c => (h c).2, Idealize.ShloMosaic.sem_eq_zero_of_no_sems (by decide) r.2⟩)
    (Cert.ReferenceIdeal.Value.run m g)

end Cert.Proof
-- ==== Proof.Value.Finite.lean ====
module

public import Idealize.ShloMosaic.PureOps.Ideal.Laws

/-! Finite extended reals, and the two ways of computing a mean, a variance and a normalised value. -/

@[expose] public section

noncomputable section

namespace Cert.Proof

open Idealize.ShloMosaic

/-- An extended real that is a real number. -/
def IsFin (x : EReal) : Prop := ∃ r : ℝ, x = (r : EReal)

/-- A real number is real. -/
theorem IsFin.coe (r : ℝ) : IsFin (r : EReal) := ⟨r, rfl⟩

/-- Zero is real. -/
theorem IsFin.zero : IsFin 0 := ⟨0, rfl⟩

/-- What is neither infinity is real. -/
theorem IsFin.of_ne {x : EReal} (h : x ≠ ⊤) (h' : x ≠ ⊥) : IsFin x := ⟨x.toReal, (EReal.coe_toReal h h').symm⟩

/-- A sum of reals is real. -/
theorem IsFin.add {x y : EReal} : IsFin x → IsFin y → IsFin (x + y)
  | ⟨r, hr⟩, ⟨s, hs⟩ => ⟨r + s, by rw [hr, hs, EReal.coe_add]⟩

/-- A difference of reals is real. -/
theorem IsFin.sub {x y : EReal} : IsFin x → IsFin y → IsFin (x - y)
  | ⟨r, hr⟩, ⟨s, hs⟩ => ⟨r - s, by rw [hr, hs, EReal.coe_sub]⟩

/-- A product of reals is real. -/
theorem IsFin.mul {x y : EReal} : IsFin x → IsFin y → IsFin (x * y)
  | ⟨r, hr⟩, ⟨s, hs⟩ => ⟨r * s, by rw [hr, hs, EReal.coe_mul]⟩

/-- The larger of two reals is real. -/
theorem IsFin.max {x y : EReal} (hx : IsFin x) (hy : IsFin y) : IsFin (max x y) := by
  rcases max_choice x y with h | h <;> rw [h] <;> assumption

/-- A finite sum of reals is the real sum. -/
theorem coe_sum {ι : Type} (s : Finset ι) (r : ι → ℝ) : ∑ i ∈ s, ((r i : ℝ) : EReal) = ((∑ i ∈ s, r i : ℝ) : EReal) := by
  classical
  induction s using Finset.induction_on with
  | empty => simp
  | insert a s ha ih => rw [Finset.sum_insert ha, Finset.sum_insert ha, ih, EReal.coe_add]

/-- A finite sum of reals is real. -/
theorem IsFin.sum {ι : Type} [Fintype ι] {f : ι → EReal} (hf : ∀ i, IsFin (f i)) : IsFin (∑ i, f i) := by
  choose r hr using hf
  exact ⟨∑ i, r i, by rw [← coe_sum]; exact Finset.sum_congr rfl fun i _ => hr i⟩

/-- A quotient of reals by a nonzero real is the real quotient. -/
theorem div_real (r : ℝ) {n : ℝ} (hn : n ≠ 0) : Ideal.div (r : EReal) (n : EReal) = ((r / n : ℝ) : EReal) := by
  rw [Ideal.div_coe hn, ← EReal.coe_mul, mul_one_div]

/-- A real divided by a real other than zero is real. -/
theorem IsFin.div {x : EReal} {n : ℝ} (hn : n ≠ 0) : IsFin x → IsFin (Ideal.div x (n : EReal))
  | ⟨r, hr⟩ => ⟨r / n, by rw [hr, div_real r hn]⟩

/-- The mean of a family, its count given as `c`. -/
def mu {ι : Type} [Fintype ι] (c : EReal) (f : ι → EReal) : EReal := Ideal.div (∑ i, f i) c

/-- The mean square less the squared mean. -/
def var1 {ι : Type} [Fintype ι] (c : EReal) (f : ι → EReal) : EReal :=
  Ideal.div (∑ i, f i * f i) c - mu c f * mu c f

/-- The mean of the squared distances from the mean. -/
def var2 {ι : Type} [Fintype ι] (c : EReal) (f : ι → EReal) : EReal :=
  Ideal.div (∑ i, (f i - mu c f) * (f i - mu c f)) c

/-- Normalising by the reciprocal root, scaling, shifting and keeping the positive part. -/
def bnK (e μ v g b z : EReal) : EReal := max ((z - μ) * Ideal.rsqrt (v + e) * g + b) 0

/-- Normalising by a quotient by the root, scaling, shifting and keeping the positive part. -/
def bnR (e μ v g b z : EReal) : EReal := max (Ideal.div (z - μ) (Ideal.sqrt (v + e)) * g + b) 0

section Moments
variable {ι : Type} [Fintype ι] {f : ι → EReal} {n : ℝ}

/-- A mean of reals is real. -/
theorem IsFin.mu (hf : ∀ i, IsFin (f i)) (hn : n ≠ 0) : IsFin (mu (n : EReal) f) := (IsFin.sum hf).div hn

/-- Of a finite family the variance computed in two passes is a real that is not negative. -/
theorem var2_nonneg (hf : ∀ i, IsFin (f i)) (hn : 0 < n) : ∃ r : ℝ, 0 ≤ r ∧ var2 (n : EReal) f = (r : EReal) := by
  obtain ⟨μ, hμ⟩ := IsFin.mu hf hn.ne'
  choose r hr using hf
  refine ⟨(∑ i, (r i - μ) * (r i - μ)) / n, div_nonneg (Finset.sum_nonneg fun i _ => mul_self_nonneg _) hn.le, ?_⟩
  unfold var2
  rw [hμ, ← div_real _ hn.ne', ← coe_sum]
  congr 1
  exact Finset.sum_congr rfl fun i _ => by rw [hr i, ← EReal.coe_sub, ← EReal.coe_mul]

/-- Of a finite family the two variances agree, the count being the number of members. -/
theorem var1_eq_var2 (hf : ∀ i, IsFin (f i)) (hn : n ≠ 0) (hc : (Fintype.card ι : ℝ) = n) :
    var1 (n : EReal) f = var2 (n : EReal) f := by
  choose r hr using hf
  have hfr : f = fun i => ((r i : ℝ) : EReal) := funext hr
  have hm : mu (n : EReal) f = (((∑ i, r i) / n : ℝ) : EReal) := by
    unfold mu; rw [hfr, coe_sum, div_real _ hn]
  unfold var1 var2
  rw [hm]
  have h1 : ∑ i, f i * f i = ((∑ i, r i * r i : ℝ) : EReal) := by
    rw [← coe_sum]; exact Finset.sum_congr rfl fun i _ => by rw [hr i, EReal.coe_mul]
  have h2 : ∑ i, (f i - (((∑ i, r i) / n : ℝ) : EReal)) * (f i - (((∑ i, r i) / n : ℝ) : EReal))
      = ((∑ i, (r i - (∑ i, r i) / n) * (r i - (∑ i, r i) / n) : ℝ) : EReal) := by
    rw [← coe_sum]; exact Finset.sum_congr rfl fun i _ => by rw [hr i, ← EReal.coe_sub, ← EReal.coe_mul]
  rw [h1, h2, div_real _ hn, div_real _ hn, ← EReal.coe_mul, ← EReal.coe_sub]
  congr 1
  set S : ℝ := ∑ i, r i with hS
  have h3 : ∑ i, (r i - S / n) * (r i - S / n) = (∑ i, r i * r i) - S * S / n := by
    have : ∀ i, (r i - S / n) * (r i - S / n) = r i * r i - (2 * (S / n)) * r i + (S / n) * (S / n) := fun i => by ring
    rw [Finset.sum_congr rfl fun i _ => this i, Finset.sum_add_distrib, Finset.sum_sub_distrib, ← Finset.mul_sum,
      Finset.sum_const, Finset.card_univ, nsmul_eq_mul, hc, ← hS]
    field_simp
    ring
  rw [h3]
  field_simp

/-- The two normalisations agree at a variance that is a real and not negative. -/
theorem bnK_eq_bnR {e μ v g b z : EReal} {ε r : ℝ} (he : e = (ε : EReal)) (hε : 0 < ε) (hv : v = (r : EReal)) (hr : 0 ≤ r) :
    bnK e μ v g b z = bnR e μ v g b z := by
  have hp : 0 < r + ε := by positivity
  have hs : Real.sqrt (r + ε) ≠ 0 := (Real.sqrt_pos.mpr hp).ne'
  unfold bnK bnR
  rw [he, hv, ← EReal.coe_add, Ideal.rsqrt_coe, Ideal.sqrt_coe, if_neg hp.not_gt, if_neg hp.ne', if_neg hp.not_gt,
    Ideal.div_coe hs, one_div]

/-- A normalised finite value is finite, scale and shift being finite. -/
theorem IsFin.bnR {e μ v g b z : EReal} {ε r : ℝ} (he : e = (ε : EReal)) (hε : 0 < ε) (hv : v = (r : EReal)) (hr : 0 ≤ r)
    (hμ : IsFin μ) (hg : IsFin g) (hb : IsFin b) (hz : IsFin z) : IsFin (bnR e μ v g b z) := by
  have hp : 0 < r + ε := by positivity
  have hs : Real.sqrt (r + ε) ≠ 0 := (Real.sqrt_pos.mpr hp).ne'
  unfold Cert.Proof.bnR
  rw [he, hv, ← EReal.coe_add, Ideal.sqrt_coe, if_neg hp.not_gt]
  exact ((((hz.sub hμ).div hs).mul hg).add hb).max IsFin.zero
end Moments

end Cert.Proof
-- ==== Proof.Value.Spec.lean ====
module

public import proofs.«01_k».proof.Proof.Value.Finite

/-! The two layers as sums over coordinates, and the agreement of the two ways of normalising them. -/

@[expose] public section

noncomputable section

namespace Cert.Proof

open Idealize.ShloMosaic

/-- The twelve arguments by their coordinates. -/
structure Args where
  x : Fin 10000 → Fin 256 → EReal
  nb : Fin 10000 → Fin 16 → Fin 256 → EReal
  w1x : Fin 128 → Fin 256 → EReal
  w1n : Fin 128 → Fin 256 → EReal
  w2x : Fin 128 → Fin 128 → EReal
  w2n : Fin 128 → Fin 128 → EReal
  g1 : EReal
  b1 : EReal
  g2 : EReal
  b2 : EReal
  wc : Fin 40 → Fin 128 → EReal
  bc : Fin 40 → EReal

/-- The four constants: 16, 2048, 1280000 and the small addend. -/
def c16 : EReal := Ideal.ofBits .f32 0x41800000#32
/-- The number of one node's neighbours times the number of features. -/
def c2048 : EReal := Ideal.ofBits .f32 0x45000000#32
/-- The number of entries of a whole layer. -/
def cNH : EReal := Ideal.ofBits .f32 0x499C4000#32
/-- What is added to a variance. -/
def eps : EReal := Ideal.ofBits .f32 0x3727C5AC#32

/-- It is sixteen. -/
theorem c16_eq : c16 = ((16 : ℝ) : EReal) := by
  simp [c16, Ideal.ofBits, Ideal.ieee, -EReal.coe_mul]; norm_num
/-- It is two thousand and forty-eight. -/
theorem c2048_eq : c2048 = ((2048 : ℝ) : EReal) := by
  simp [c2048, Ideal.ofBits, Ideal.ieee, -EReal.coe_mul]; norm_num
/-- It is one million two hundred and eighty thousand. -/
theorem cNH_eq : cNH = ((1280000 : ℝ) : EReal) := by
  simp [cNH, Ideal.ofBits, Ideal.ieee, -EReal.coe_mul]; norm_num
/-- What is added to a variance is a positive real number. -/
theorem eps_pos : ∃ ε : ℝ, 0 < ε ∧ eps = (ε : EReal) := by
  refine ⟨(10995116 : ℝ) * 2 ^ (-40 : ℤ), by positivity, ?_⟩
  simp [eps, Ideal.ofBits, Ideal.ieee, -EReal.coe_mul]
/-- The zero pattern is zero. -/
theorem ofBits_zero : Ideal.ofBits .f32 0x00000000#32 = 0 := by simp [Ideal.ofBits, Ideal.ieee]

/-- A row times a row of weights. -/
def lin {n : ℕ} (r w : Fin n → EReal) : EReal := ∑ k, r k * w k

/-- The mean of sixteen neighbours' features. -/
def nmean (a : Args) (i : Fin 10000) (k : Fin 256) : EReal := Ideal.div (∑ d : Fin 16, a.nb i d k) c16

/-- The first layer before normalisation. -/
def X1 (a : Args) (i : Fin 10000) (h : Fin 128) : EReal := lin (a.x i) (a.w1x h) + lin (nmean a i) (a.w1n h)

/-- The neighbours' first layer before normalisation. -/
def M1 (a : Args) (i : Fin 10000) (p : Fin 16 × Fin 128) : EReal := lin (a.nb i p.1) (a.w1x p.2)

/-- A two-index array as a family over pairs. -/
def pairs (f : Fin 10000 → Fin 128 → EReal) (p : Fin 10000 × Fin 128) : EReal := f p.1 p.2

/-- The type of a normalisation: small addend, mean, variance, scale, shift, value. -/
abbrev Norm := EReal → EReal → EReal → EReal → EReal → EReal → EReal

/-- The type of a variance over the whole batch. -/
abbrev Var := EReal → (Fin 10000 × Fin 128 → EReal) → EReal

/-- The mean of sixteen neighbours' normalised values. -/
def F2 (bn : Norm) (a : Args) (i : Fin 10000) (h : Fin 128) : EReal :=
  Ideal.div (∑ d : Fin 16, bn eps (mu c2048 (M1 a i)) (var2 c2048 (M1 a i)) a.g1 a.b1 (M1 a i (d, h))) c16

/-- The first layer normalised over the batch. -/
def Y1 (bn : Norm) (va : Var) (a : Args) (i : Fin 10000) (h : Fin 128) : EReal :=
  bn eps (mu cNH (pairs (X1 a))) (va cNH (pairs (X1 a))) a.g1 a.b1 (X1 a i h)

/-- The second layer before normalisation. -/
def X2 (bn : Norm) (va : Var) (a : Args) (i : Fin 10000) (h : Fin 128) : EReal :=
  lin (Y1 bn va a i) (a.w2x h) + lin (F2 bn a i) (a.w2n h)

/-- The second layer normalised over the batch. -/
def Y2 (bn : Norm) (va : Var) (a : Args) (i : Fin 10000) (h : Fin 128) : EReal :=
  bn eps (mu cNH (pairs (X2 bn va a))) (va cNH (pairs (X2 bn va a))) a.g2 a.b2 (X2 bn va a i h)

/-- The class scores. -/
def scores (bn : Norm) (va : Var) (a : Args) (i : Fin 10000) (c : Fin 40) : EReal :=
  lin (Y2 bn va a i) (a.wc c) + a.bc c

/-- Everything that enters the layers before the last normalisation is finite. -/
structure Args.Fin (a : Args) : Prop where
  x : ∀ i k, IsFin (a.x i k)
  nb : ∀ i d k, IsFin (a.nb i d k)
  w1x : ∀ h k, IsFin (a.w1x h k)
  w1n : ∀ h k, IsFin (a.w1n h k)
  w2x : ∀ h k, IsFin (a.w2x h k)
  w2n : ∀ h k, IsFin (a.w2n h k)
  g1 : IsFin a.g1
  b1 : IsFin a.b1

/-- A row of reals times a row of real weights is real. -/
theorem IsFin.lin {n : ℕ} {r w : Fin n → EReal} (hr : ∀ k, IsFin (r k)) (hw : ∀ k, IsFin (w k)) : IsFin (lin r w) :=
  IsFin.sum fun k => (hr k).mul (hw k)

section
variable {a : Args} (ha : a.Fin)
include ha

/-- The first layer is real. -/
theorem X1_fin (i : Fin 10000) (h : Fin 128) : IsFin (X1 a i h) := by
  refine (IsFin.lin (ha.x i) (ha.w1x h)).add (IsFin.lin (fun k => ?_) (ha.w1n h))
  unfold nmean; rw [c16_eq]
  exact (IsFin.sum fun d => ha.nb i d k).div (by norm_num)

/-- The neighbours' products are real. -/
theorem M1_fin (i : Fin 10000) (p : Fin 16 × Fin 128) : IsFin (M1 a i p) := IsFin.lin (ha.nb i p.1) (ha.w1x p.2)

/-- The neighbours' normalised means agree. -/
theorem F2_eq : F2 bnK a = F2 bnR a := by
  obtain ⟨ε, hε, he⟩ := eps_pos
  funext i h
  obtain ⟨v, hv, e⟩ := var2_nonneg (M1_fin ha i) (n := 2048) (by norm_num)
  rw [← c2048_eq] at e
  unfold F2
  congr 1
  exact Finset.sum_congr rfl fun d _ => bnK_eq_bnR he hε e hv

/-- They are real. -/
theorem F2_fin (i : Fin 10000) (h : Fin 128) : IsFin (F2 bnR a i h) := by
  obtain ⟨ε, hε, he⟩ := eps_pos
  obtain ⟨v, hv, e⟩ := var2_nonneg (M1_fin ha i) (n := 2048) (by norm_num)
  rw [← c2048_eq] at e
  unfold F2
  rw [c16_eq]
  refine (IsFin.sum fun d => IsFin.bnR he hε e hv ?_ ha.g1 ha.b1 (M1_fin ha i _)).div (by norm_num)
  rw [c2048_eq]; exact IsFin.mu (M1_fin ha i) (by norm_num)

end

/-- The number of entries of a layer. -/
theorem card_pairs : (Fintype.card (Fin 10000 × Fin 128) : ℝ) = 1280000 := by
  rw [Fintype.card_prod, Fintype.card_fin, Fintype.card_fin]; norm_num

/-- Over a finite layer the two ways of normalising agree. -/
theorem batch_eq {f : Fin 10000 → Fin 128 → EReal} (hf : ∀ i h, IsFin (f i h)) (g b z : EReal) :
    bnK eps (mu cNH (pairs f)) (var1 cNH (pairs f)) g b z = bnR eps (mu cNH (pairs f)) (var2 cNH (pairs f)) g b z := by
  obtain ⟨ε, hε, he⟩ := eps_pos
  have hp : ∀ p, IsFin (pairs f p) := fun p => hf p.1 p.2
  obtain ⟨v, hv, e⟩ := var2_nonneg hp (n := 1280000) (by norm_num)
  rw [cNH_eq, var1_eq_var2 hp (by norm_num) card_pairs]
  exact bnK_eq_bnR he hε e hv

section
variable {a : Args} (ha : a.Fin)
include ha

/-- The first normalised layers agree. -/
theorem Y1_eq : Y1 bnK var1 a = Y1 bnR var2 a := by
  funext i h; exact batch_eq (X1_fin ha) _ _ _

/-- The first normalised layer is real. -/
theorem Y1_fin (i : Fin 10000) (h : Fin 128) : IsFin (Y1 bnR var2 a i h) := by
  obtain ⟨ε, hε, he⟩ := eps_pos
  have hp : ∀ p, IsFin (pairs (X1 a) p) := fun p => X1_fin ha p.1 p.2
  obtain ⟨v, hv, e⟩ := var2_nonneg hp (n := 1280000) (by norm_num)
  unfold Y1
  rw [cNH_eq]
  exact IsFin.bnR he hε e hv (IsFin.mu hp (by norm_num)) ha.g1 ha.b1 (X1_fin ha i h)

/-- The second layers agree. -/
theorem X2_eq : X2 bnK var1 a = X2 bnR var2 a := by
  funext i h; unfold X2; rw [Y1_eq ha, F2_eq ha]

/-- The second layer is real. -/
theorem X2_fin (i : Fin 10000) (h : Fin 128) : IsFin (X2 bnR var2 a i h) :=
  (IsFin.lin (Y1_fin ha i) (ha.w2x h)).add (IsFin.lin (F2_fin ha i) (ha.w2n h))

/-- Of arguments that are finite where it matters, the class scores computed with one pass and a reciprocal root are
    those computed with two passes and a quotient. -/
theorem scores_eq : scores bnK var1 a = scores bnR var2 a := by
  have hY : Y2 bnK var1 a = Y2 bnR var2 a := by
    funext i h; unfold Y2; rw [X2_eq ha]; exact batch_eq (X2_fin ha) _ _ _
  funext i c; unfold scores; rw [hY]
end

end Cert.Proof
-- ==== Proof.Value.Blocks.lean ====
module

public import proofs.«01_k».proof.Proof.Ideal.Track
public import proofs.«01_k».proof.Proof.Value.Spec
public import Idealize.ShloMosaic.Lib.Pointwise
public import Idealize.ShloMosaic.Lib.StableHlo.ReadAt
public import Idealize.ShloMosaic.Lib.Pipeline.ValueKit.Point

/-! The kernel's input blocks, read at one index, as entries of the arguments. -/

@[expose] public section

noncomputable section

namespace Cert.Proof.Ideal

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

/-- Device `c`'s twelve arguments by their coordinates. -/
def args (c : Dev nD) : Args where
  x i k := m ((c : Thread nD τ).loc main_arg0) (ix3 i 0 k)
  nb i d k := m ((c : Thread nD τ).loc main_arg1) (ix4 i d 0 k)
  w1x h k := m ((c : Thread nD τ).loc main_arg2) (ix2 h k)
  w1n h k := m ((c : Thread nD τ).loc main_arg3) (ix2 h k)
  w2x h k := m ((c : Thread nD τ).loc main_arg4) (ix2 h k)
  w2n h k := m ((c : Thread nD τ).loc main_arg5) (ix2 h k)
  g1 := m ((c : Thread nD τ).loc main_arg6) (ix1 0)
  b1 := m ((c : Thread nD τ).loc main_arg7) (ix1 0)
  g2 := m ((c : Thread nD τ).loc main_arg8) (ix1 0)
  b2 := m ((c : Thread nD τ).loc main_arg9) (ix1 0)
  wc h k := m ((c : Thread nD τ).loc main_arg10) (ix2 h k)
  bc h := m ((c : Thread nD τ).loc main_arg11) (ix1 h)

/-! ## What the host line leaves in the operands -/

/-- The features are laid out as rows. -/
theorem v0_at (c : Dev nD) (i : Fin 10000) (k : Fin 256) : V m c main_call0_v0 (ix2 i k) = (args m c).x i k := by
  unfold V args
  after_reads_at
/-- The neighbours are laid out as rows, sixteen to a node. -/
theorem v1_at (c : Dev nD) (i : Fin 160000) (k : Fin 256) :
    V m c main_call0_v1 (ix2 i k) = (args m c).nb ⟨i.val / 16, by omega⟩ ⟨i.val % 16, by omega⟩ k := by
  unfold V args
  after_reads_at
/-- The first layer's own weights are transposed. -/
theorem v6_at (c : Dev nD) (k : Fin 256) (h : Fin 128) : V m c main_call0_v6 (ix2 k h) = (args m c).w1x h k := by
  unfold V args
  after_reads_at
/-- So are its neighbour weights, -/
theorem v7_at (c : Dev nD) (k : Fin 256) (h : Fin 128) : V m c main_call0_v7 (ix2 k h) = (args m c).w1n h k := by
  unfold V args
  after_reads_at
/-- the second layer's own weights, -/
theorem v8_at (c : Dev nD) (k : Fin 128) (h : Fin 128) : V m c main_call0_v8 (ix2 k h) = (args m c).w2x h k := by
  unfold V args
  after_reads_at
/-- its neighbour weights -/
theorem v9_at (c : Dev nD) (k : Fin 128) (h : Fin 128) : V m c main_call0_v9 (ix2 k h) = (args m c).w2n h k := by
  unfold V args
  after_reads_at
/-- and the classifier's weights. -/
theorem v10_at (c : Dev nD) (k : Fin 128) (h : Fin 40) : V m c main_call0_v10 (ix2 k h) = (args m c).wc h k := by
  unfold V args
  after_reads_at
/-- The classifier's bias is laid out as a row. -/
theorem v11_at (c : Dev nD) (h : Fin 40) : V m c main_call0_v11 (ix2 0 h) = (args m c).bc h := by
  unfold V args
  after_reads_at
/-- The first scale is laid out as a one-by-one table. -/
theorem v2_at (c : Dev nD) : V m c main_call0_v2 (ix2 0 0) = (args m c).g1 := by
  unfold V args
  after_reads_at
/-- So is the first shift, -/
theorem v3_at (c : Dev nD) : V m c main_call0_v3 (ix2 0 0) = (args m c).b1 := by
  unfold V args
  after_reads_at
/-- the second scale -/
theorem v4_at (c : Dev nD) : V m c main_call0_v4 (ix2 0 0) = (args m c).g2 := by
  unfold V args
  after_reads_at
/-- and the second shift. -/
theorem v5_at (c : Dev nD) : V m c main_call0_v5 (ix2 0 0) = (args m c).b2 := by
  unfold V args
  after_reads_at

/-! ## Where the blocks lie -/

/-- The two blocked inputs step through the first ten points; every other input is one block. -/
theorem idx0 (t : Fin cfg0.N) : (cfg0.win 0).index t 0 = min t.val 9 ∧ (cfg0.win 0).index t 1 = 0 := by revert t; decide +kernel
/-- The neighbours move with the first ten points, as the features do. -/
theorem idx1 (t : Fin cfg0.N) : (cfg0.win 1).index t 0 = min t.val 9 ∧ (cfg0.win 1).index t 1 = 0 := by revert t; decide +kernel
/-- Input window 2 stays where it is. -/
theorem idx2 (t : Fin cfg0.N) : (cfg0.win 2).index t 0 = 0 ∧ (cfg0.win 2).index t 1 = 0 := by revert t; decide +kernel
/-- Input window 3 stays where it is. -/
theorem idx3 (t : Fin cfg0.N) : (cfg0.win 3).index t 0 = 0 ∧ (cfg0.win 3).index t 1 = 0 := by revert t; decide +kernel
/-- Input window 4 stays where it is. -/
theorem idx4 (t : Fin cfg0.N) : (cfg0.win 4).index t 0 = 0 ∧ (cfg0.win 4).index t 1 = 0 := by revert t; decide +kernel
/-- Input window 5 stays where it is. -/
theorem idx5 (t : Fin cfg0.N) : (cfg0.win 5).index t 0 = 0 ∧ (cfg0.win 5).index t 1 = 0 := by revert t; decide +kernel
/-- Input window 6 stays where it is. -/
theorem idx6 (t : Fin cfg0.N) : (cfg0.win 6).index t 0 = 0 ∧ (cfg0.win 6).index t 1 = 0 := by revert t; decide +kernel
/-- Input window 7 stays where it is. -/
theorem idx7 (t : Fin cfg0.N) : (cfg0.win 7).index t 0 = 0 ∧ (cfg0.win 7).index t 1 = 0 := by revert t; decide +kernel
/-- Input window 8 stays where it is. -/
theorem idx8 (t : Fin cfg0.N) : (cfg0.win 8).index t 0 = 0 ∧ (cfg0.win 8).index t 1 = 0 := by revert t; decide +kernel
/-- Input window 9 stays where it is. -/
theorem idx9 (t : Fin cfg0.N) : (cfg0.win 9).index t 0 = 0 ∧ (cfg0.win 9).index t 1 = 0 := by revert t; decide +kernel
/-- Input window 10 stays where it is. -/
theorem idx10 (t : Fin cfg0.N) : (cfg0.win 10).index t 0 = 0 ∧ (cfg0.win 10).index t 1 = 0 := by revert t; decide +kernel
/-- Input window 11 stays where it is. -/
theorem idx11 (t : Fin cfg0.N) : (cfg0.win 11).index t 0 = 0 ∧ (cfg0.win 11).index t 1 = 0 := by revert t; decide +kernel

/-- A number below twenty is its own point. -/
theorem pt_lt (n : ℕ) (hn : n < 20) : (pt n).val = n := by show min n 19 = n; omega

/-! ## The blocks at an index -/

/-- Block `n` of the features is the thousand rows from row `1000 n`. -/
theorem bX_at (c : Dev nD) (n : ℕ) (hn : n < 10) (r : Fin 1000) (k : Fin 256) :
    bX m c n (ix2 r k) = (args m c).x ⟨1000 * n + r.val, by omega⟩ k := by
  have hp := pt_lt n (by omega)
  rw [← v0_at]
  unfold bX
  blk_ext [iblk, V, idx0 (pt n)]

/-- Block `n` of the neighbours is the sixteen thousand rows from row `16000 n`. -/
theorem bNb_at (c : Dev nD) (n : ℕ) (hn : n < 10) (r : Fin 1000) (d : Fin 16) (k : Fin 256) :
    bNb m c n (ix2 (⟨r.val * 16 + d.val, by omega⟩ : Fin 16000) k) = (args m c).nb ⟨1000 * n + r.val, by omega⟩ d k := by
  have hp := pt_lt n (by omega)
  have e : bNb m c n (ix2 (⟨r.val * 16 + d.val, by omega⟩ : Fin 16000) k)
      = V m c main_call0_v1 (ix2 (⟨16000 * n + (r.val * 16 + d.val), by omega⟩ : Fin 160000) k) := by
    unfold bNb
    blk_ext [iblk, V, idx1 (pt n)]
  rw [e, v1_at]
  congr 1 <;> apply Fin.ext
  · show (16000 * n + (r.val * 16 + d.val)) / 16 = 1000 * n + r.val; omega
  · show (16000 * n + (r.val * 16 + d.val)) % 16 = d.val; omega

/-- The first layer's own weights, at an index. -/
theorem bW1x_at (c : Dev nD) (k : Fin 256) (h : Fin 128) : bW1x m c (ix2 k h) = (args m c).w1x h k := by
  rw [← v6_at]
  unfold bW1x
  blk_ext [iblk, V, idx2 (pt 0)]
/-- The first layer's neighbour weights, at an index. -/
theorem bW1n_at (c : Dev nD) (k : Fin 256) (h : Fin 128) : bW1n m c (ix2 k h) = (args m c).w1n h k := by
  rw [← v7_at]
  unfold bW1n
  blk_ext [iblk, V, idx3 (pt 0)]
/-- The second layer's own weights, at an index. -/
theorem bW2x_at (c : Dev nD) (k : Fin 128) (h : Fin 128) : bW2x m c (ix2 k h) = (args m c).w2x h k := by
  rw [← v8_at]
  unfold bW2x
  blk_ext [iblk, V, idx4 (pt 0)]
/-- The second layer's neighbour weights, at an index. -/
theorem bW2n_at (c : Dev nD) (k : Fin 128) (h : Fin 128) : bW2n m c (ix2 k h) = (args m c).w2n h k := by
  rw [← v9_at]
  unfold bW2n
  blk_ext [iblk, V, idx5 (pt 0)]
/-- The classifier's weights, at an index. -/
theorem bWc_at (c : Dev nD) (k : Fin 128) (h : Fin 40) : bWc m c (ix2 k h) = (args m c).wc h k := by
  rw [← v10_at]
  unfold bWc
  blk_ext [iblk, V, idx6 (pt 0)]
/-- The classifier's bias, at an index. -/
theorem bBc_at (c : Dev nD) (h : Fin 40) : bBc m c (ix2 0 h) = (args m c).bc h := by
  rw [← v11_at]
  unfold bBc
  blk_ext [iblk, V, idx7 (pt 0)]
/-- The first scale is the argument. -/
theorem bg1_at (c : Dev nD) : sc (bg1 m c) = (args m c).g1 := by
  rw [← v2_at]
  unfold sc bg1
  blk_ext [iblk, V, idx8 (pt 0)]
/-- The first shift is the argument. -/
theorem bb1_at (c : Dev nD) : sc (bb1 m c) = (args m c).b1 := by
  rw [← v3_at]
  unfold sc bb1
  blk_ext [iblk, V, idx9 (pt 0)]
/-- The second scale is the argument. -/
theorem bg2_at (c : Dev nD) : sc (bg2 m c) = (args m c).g2 := by
  rw [← v4_at]
  unfold sc bg2
  blk_ext [iblk, V, idx10 (pt 0)]
/-- The second shift is the argument. -/
theorem bb2_at (c : Dev nD) : sc (bb2 m c) = (args m c).b2 := by
  rw [← v5_at]
  unfold sc bb2
  blk_ext [iblk, V, idx11 (pt 0)]

end Cert.Proof.Ideal
-- ==== Proof.Value.Pays.lean ====
module

public import proofs.«01_k».proof.Proof.Gen.KernelIdeal.Skeleton
public import proofs.«01_k».proof.Proof.Value.Spec
public import Idealize.ShloMosaic.Lib.Pointwise

/-! What the kernel's body computes, read at one index, over the extended reals. -/

@[expose] public section

noncomputable section

namespace Cert.Proof.Ideal

open Idealize.ShloMosaic Cert.KernelIdeal Cert.KernelIdeal.Gen

/-- Row `r`, neighbour `d` of a block of neighbours laid out row by row. -/
abbrev nbRow (r : Fin 1000) (d : Fin 16) : Fin 16000 := ⟨r.val * 16 + d.val, by omega⟩

/-- The first layer's product: the rows times their weights plus the neighbours' mean times theirs. -/
theorem pay1_at (nb : Vec Ideal S16000x256 .f32) (x : Vec Ideal S1000x256 .f32) (u w : Vec Ideal S256x128 .f32) (r : Fin 1000) (h : Fin 128) :
    k0_pay1 (k0_pay19 u) (k0_pay21 nb) x w (ix2 r h)
      = lin (fun k => x (ix2 r k)) (fun k => u (ix2 k h))
        + lin (fun k => Ideal.div (∑ d : Fin 16, nb (ix2 (nbRow r d) k)) c16) (fun k => w (ix2 k h)) := by
  pointwise [k0_pay1, k0_pay19, k0_pay21, k0_pay18]
  rfl

/-- The stored first layer is the product. -/
theorem pay2_at (nb : Vec Ideal S16000x256 .f32) (x : Vec Ideal S1000x256 .f32) (u w : Vec Ideal S256x128 .f32) (r : Fin 1000) (h : Fin 128) :
    k0_pay2 (k0_pay19 u) (k0_pay21 nb) x w (ix2 r h) = k0_pay1 (k0_pay19 u) (k0_pay21 nb) x w (ix2 r h) := by
  pointwise [k0_pay2]

/-- Row `q * 8 + r` of a block of a thousand rows. -/
abbrev row8 (q : Fin 125) (r : Fin 8) : Fin 1000 := ⟨q.val * 8 + r.val, by omega⟩

/-- Row `q * 8 + r` of a block of two thousand rows. -/
abbrev row8' (q : Fin 250) (r : Fin 8) : Fin 2000 := ⟨q.val * 8 + r.val, by omega⟩

/-- A block's sum over its rows, eight rows wide. -/
theorem pay5_at (v17 : FVec Ideal S256x128 .bf16) (v54 : FVec Ideal S1000x256 .f32) (v55 : Vec Ideal S1000x256 .f32) (v60 : Vec Ideal S256x128 .f32) (r : Fin 8) (h : Fin 128) :
    k0_pay5 v17 v54 v55 v60 (ix2 r h) = ∑ q : Fin 125, k0_pay1 v17 v54 v55 v60 (ix2 (row8 q r) h) := by
  pointwise [k0_pay5, k0_pay3]

/-- The same of the squares. -/
theorem pay6_at (v17 : FVec Ideal S256x128 .bf16) (v54 : FVec Ideal S1000x256 .f32) (v55 : Vec Ideal S1000x256 .f32) (v60 : Vec Ideal S256x128 .f32) (r : Fin 8) (h : Fin 128) :
    k0_pay6 v17 v54 v55 v60 (ix2 r h) = ∑ q : Fin 125, k0_pay1 v17 v54 v55 v60 (ix2 (row8 q r) h) * k0_pay1 v17 v54 v55 v60 (ix2 (row8 q r) h) := by
  pointwise [k0_pay6, k0_pay4]

/-- The running sum and the block's own. -/
theorem pay7_at (v17 : FVec Ideal S256x128 .bf16) (v54 : FVec Ideal S1000x256 .f32) (v55 : Vec Ideal S1000x256 .f32) (v60 : Vec Ideal S256x128 .f32) (s : Vec Ideal S8x128 .f32) (r : Fin 8) (h : Fin 128) :
    k0_pay7 v17 v54 v55 v60 s (ix2 r h) = s (ix2 r h) + ∑ q : Fin 125, k0_pay1 v17 v54 v55 v60 (ix2 (row8 q r) h) := by
  pointwise [k0_pay7, k0_pay3]

/-- The same of the squares. -/
theorem pay8_at (v17 : FVec Ideal S256x128 .bf16) (v54 : FVec Ideal S1000x256 .f32) (v55 : Vec Ideal S1000x256 .f32) (v60 : Vec Ideal S256x128 .f32) (s : Vec Ideal S8x128 .f32) (r : Fin 8) (h : Fin 128) :
    k0_pay8 v17 v54 v55 v60 s (ix2 r h) = s (ix2 r h) + ∑ q : Fin 125, k0_pay1 v17 v54 v55 v60 (ix2 (row8 q r) h) * k0_pay1 v17 v54 v55 v60 (ix2 (row8 q r) h) := by
  pointwise [k0_pay8, k0_pay4]

/-- The second layer's two halves added. -/
theorem pay10_at (v w : FVec Ideal S2000x128 .f32) (r : Fin 2000) (h : Fin 128) :
    k0_pay10 v w (ix2 r h) = v (ix2 r h) + w (ix2 r h) := by
  pointwise [k0_pay10, k0_pay9]

/-- A block's sum over the rows of the second layer, eight rows wide. -/
theorem pay13_at (v w : FVec Ideal S2000x128 .f32) (r : Fin 8) (h : Fin 128) :
    k0_pay13 v w (ix2 r h) = ∑ q : Fin 250, (v (ix2 (row8' q r) h) + w (ix2 (row8' q r) h)) := by
  pointwise [k0_pay13, k0_pay11, k0_pay9]

/-- The same of the squares. -/
theorem pay14_at (v w : FVec Ideal S2000x128 .f32) (r : Fin 8) (h : Fin 128) :
    k0_pay14 v w (ix2 r h) = ∑ q : Fin 250, (v (ix2 (row8' q r) h) + w (ix2 (row8' q r) h)) * (v (ix2 (row8' q r) h) + w (ix2 (row8' q r) h)) := by
  pointwise [k0_pay14, k0_pay12, k0_pay9]

/-- The running sum and the block's own. -/
theorem pay15_at (v w : FVec Ideal S2000x128 .f32) (s : Vec Ideal S8x128 .f32) (r : Fin 8) (h : Fin 128) :
    k0_pay15 v w s (ix2 r h) = s (ix2 r h) + ∑ q : Fin 250, (v (ix2 (row8' q r) h) + w (ix2 (row8' q r) h)) := by
  pointwise [k0_pay15, k0_pay11, k0_pay9]

/-- The same of the squares. -/
theorem pay16_at (v w : FVec Ideal S2000x128 .f32) (s : Vec Ideal S8x128 .f32) (r : Fin 8) (h : Fin 128) :
    k0_pay16 v w s (ix2 r h) = s (ix2 r h) + ∑ q : Fin 250, (v (ix2 (row8' q r) h) + w (ix2 (row8' q r) h)) * (v (ix2 (row8' q r) h) + w (ix2 (row8' q r) h)) := by
  pointwise [k0_pay16, k0_pay12, k0_pay9]

/-- The neighbours' normalised mean of a block: each row of sixteen neighbours is normalised on its own. -/
theorem pay20_at (g b : Elt Ideal .f32) (nb : Vec Ideal S16000x256 .f32) (u : Vec Ideal S256x128 .f32) (r : Fin 1000) (h : Fin 128)
    (f : Fin 16 × Fin 128 → EReal) (hf : ∀ d k, lin (fun j => nb (ix2 (nbRow r d) j)) (fun j => u (ix2 j k)) = f (d, k)) :
    k0_pay20 g b nb u (ix2 r h)
      = Ideal.div (∑ d : Fin 16, bnK eps (mu c2048 f) (var2 c2048 f) g b (f (d, h))) c16 := by
  have hm : mu c2048 f = Ideal.div (∑ d : Fin 16, ∑ k : Fin 128, f (d, k)) c2048 := by unfold mu; rw [Fintype.sum_prod_type]
  have hv : var2 c2048 f = Ideal.div (∑ d : Fin 16, ∑ k : Fin 128, (f (d, k) - mu c2048 f) * (f (d, k) - mu c2048 f)) c2048 := by
    unfold var2; rw [Fintype.sum_prod_type]
  rw [hv, hm]
  simp only [← hf]
  pointwise [k0_pay20, k0_pay19, k0_pay18]
  simp only [bnK]
  rfl

/-- The sum of all the running sum's lanes over the count. -/
def lanes (s : Vec Ideal S8x128 .f32) : EReal := ∑ r : Fin 8, ∑ l : Fin 128, s (ix2 r l)

/-- The second layer's own half: the stored first layer is normalised by the running sums and multiplied by its weights. -/
theorem pay22_at (g b : Elt Ideal .f32) (s q : Vec Ideal S8x128 .f32) (x : Vec Ideal S2000x128 .f32) (u : Vec Ideal S128x128 .f32) (r : Fin 2000) (h : Fin 128) :
    k0_pay22 g b s q x u (ix2 r h)
      = lin (fun k => bnK eps (Ideal.div (lanes s) cNH) (Ideal.div (lanes q) cNH - Ideal.div (lanes s) cNH * Ideal.div (lanes s) cNH) g b (x (ix2 r k)))
          (fun k => u (ix2 k h)) := by
  pointwise [k0_pay22]
  simp only [bnK, lin, lanes]
  rfl

/-- The second layer's neighbour half. -/
theorem pay23_at (x : Vec Ideal S2000x128 .f32) (u : Vec Ideal S128x128 .f32) (r : Fin 2000) (h : Fin 128) :
    k0_pay23 x u (ix2 r h) = lin (fun k => x (ix2 r k)) (fun k => u (ix2 k h)) := by
  pointwise [k0_pay23]
  rfl

/-- The class scores before the shift: the stored second layer normalised and multiplied by its weights. -/
theorem pay24_at (g b : Elt Ideal .f32) (s q : Vec Ideal S8x128 .f32) (x : Vec Ideal S2000x128 .f32) (u : Vec Ideal S128x40 .f32) (r : Fin 2000) (h : Fin 40) :
    k0_pay24 s q g b x u (ix2 r h)
      = lin (fun k => bnK eps (Ideal.div (lanes s) cNH) (Ideal.div (lanes q) cNH - Ideal.div (lanes s) cNH * Ideal.div (lanes s) cNH) g b (x (ix2 r k)))
          (fun k => u (ix2 k h)) := by
  pointwise [k0_pay24]
  simp only [bnK, lin, lanes]
  rfl

/-- The classifier's product and its bias. -/
theorem pay17_at (v : FVec Ideal S2000x40 .f32) (w : Vec Ideal S1x40 .f32) (r : Fin 2000) (h : Fin 40) :
    k0_pay17 v w (ix2 r h) = v (ix2 r h) + w (ix2 0 h) := by
  pointwise [k0_pay17]

end Cert.Proof.Ideal
-- ==== Proof.Value.Chain.lean ====
module

public import proofs.«01_k».proof.Proof.Value.Blocks
public import proofs.«01_k».proof.Proof.Value.Pays
public import Idealize.ShloMosaic.Lib.Pipeline.ValueKit.Acc

/-! From the input blocks to the class scores: what each stored block and each running sum is. -/

@[expose] public section

noncomputable section

namespace Cert.Proof.Ideal

open Cert.KernelIdeal Cert.KernelIdeal.Gen
open Idealize.ShloMosaic Idealize.ShloMosaic.TcCoe Idealize.ShloMosaic.Tactic

/-! ## Running sums -/

/-- A layer over all the numbers, zero beyond its rows. -/
def ext (f : Fin 10000 → Fin 128 → EReal) (i : ℕ) (h : Fin 128) : EReal := if hi : i < 10000 then f ⟨i, hi⟩ h else 0

/-- Within its rows that is the layer. -/
theorem ext_of_lt (f : Fin 10000 → Fin 128 → EReal) {i : ℕ} (hi : i < 10000) (h : Fin 128) : ext f i h = f ⟨i, hi⟩ h := dif_pos hi

/-- A sum that runs over blocks of `8 Q` rows, eight rows wide, adds up, over all its lanes, every row met. -/
theorem lanes_run {N : ℕ} (Q : ℕ) (s : ℕ → Vec Ideal S8x128 .f32) (G : ℕ → Fin 128 → EReal)
    (h0 : ∀ r h, s 0 (ix2 r h) = ∑ q : Fin Q, G (q.val * 8 + r.val) h)
    (hs : ∀ n, n + 1 < N → ∀ r h, s (n + 1) (ix2 r h) = s n (ix2 r h) + ∑ q : Fin Q, G ((n + 1) * (Q * 8) + (q.val * 8 + r.val)) h)
    (n : ℕ) (hn : n < N) : lanes (s n) = ∑ i : Fin ((n + 1) * (Q * 8)), ∑ h, G i.val h := by
  have key : ∀ n, n < N → ∀ r h, s n (ix2 r h) = ∑ j : Fin (n + 1), ∑ q : Fin Q, G (j.val * (Q * 8) + (q.val * 8 + r.val)) h := by
    intro n
    induction n with
    | zero => intro _ r h; rw [h0, Fin.sum_univ_one]; simp
    | succ n ih => intro hn r h; rw [hs n hn, ih (by omega), Fin.sum_univ_castSucc (n := n + 1)]; rfl
  unfold lanes
  rw [← Fin.sum_univ_univ_mul_add (n + 1) (Q * 8) (fun i => ∑ h, G i h)]
  have e : ∀ j : Fin (n + 1), ∑ k : Fin (Q * 8), ∑ h, G (j.val * (Q * 8) + k.val) h
      = ∑ q : Fin Q, ∑ r : Fin 8, ∑ h, G (j.val * (Q * 8) + (q.val * 8 + r.val)) h := fun j =>
    (Fin.sum_univ_univ_mul_add Q 8 (fun i => ∑ h, G (j.val * (Q * 8) + i) h)).symm
  simp only [e, key n hn]
  have comm : ∀ r : Fin 8, ∑ h : Fin 128, ∑ j : Fin (n + 1), ∑ q : Fin Q, G (j.val * (Q * 8) + (q.val * 8 + r.val)) h
      = ∑ j : Fin (n + 1), ∑ q : Fin Q, ∑ h : Fin 128, G (j.val * (Q * 8) + (q.val * 8 + r.val)) h := fun r => by
    rw [Finset.sum_comm]; exact Finset.sum_congr rfl fun j _ => Finset.sum_comm
  simp only [comm]
  rw [Finset.sum_comm]
  exact Finset.sum_congr rfl fun j _ => Finset.sum_comm

/-- Over all ten thousand rows that is the sum over the pairs. -/
theorem sum_ext {n : ℕ} (hn : n = 10000) (f : Fin 10000 → Fin 128 → EReal) (g : EReal → EReal) :
    ∑ i : Fin n, ∑ h, g (ext f i.val h) = ∑ p, g (pairs f p) := by
  subst hn
  rw [Fintype.sum_prod_type]
  exact Finset.sum_congr rfl fun i _ => Finset.sum_congr rfl fun h _ => by rw [ext_of_lt f i.isLt]; rfl

variable (m : (ℓ : Loc nD τ sig) → Buf (Elt Ideal) ℓ) (c : Dev nD)

/-! ## The first pass -/

/-- Row `r` of block `n` of a thousand rows. -/
theorem pay1_blk (n : ℕ) (hn : n < 10) (r : Fin 1000) (h : Fin 128) :
    k0_pay1 (k0_pay19 (bW1x m c)) (k0_pay21 (bNb m c n)) (bX m c n) (bW1n m c) (ix2 r h)
      = X1 (args m c) ⟨1000 * n + r.val, by omega⟩ h := by
  rw [pay1_at]
  simp only [bX_at m c n hn, bNb_at m c n hn, bW1x_at, bW1n_at]
  rfl

/-- The first layer as stored, at a row of a block. -/
theorem x1blk_at (n : ℕ) (hn : n < 10) (r : Fin 1000) (h : Fin 128) :
    x1blk m c n (ix2 r h) = X1 (args m c) ⟨1000 * n + r.val, by omega⟩ h := by
  unfold x1blk
  rw [pay2_at, pay1_blk m c n hn]

/-- The neighbours' normalised mean as stored, at a row of a block. -/
theorem f2blk_at (n : ℕ) (hn : n < 10) (r : Fin 1000) (h : Fin 128) :
    f2blk m c n (ix2 r h) = F2 bnK (args m c) ⟨1000 * n + r.val, by omega⟩ h := by
  unfold f2blk
  rw [bg1_at, bb1_at, pay20_at _ _ _ _ r h (M1 (args m c) ⟨1000 * n + r.val, by omega⟩) (fun d k => by
    simp only [bNb_at m c n hn, bW1x_at]; rfl)]
  rfl

/-- A row of a block of a thousand, counted among all the rows. -/
theorem pay1_blk_ext (n : ℕ) (hn : n < 10) (q : Fin 125) (r : Fin 8) (h : Fin 128) :
    k0_pay1 (k0_pay19 (bW1x m c)) (k0_pay21 (bNb m c n)) (bX m c n) (bW1n m c) (ix2 (row8 q r) h)
      = ext (X1 (args m c)) (n * (125 * 8) + (q.val * 8 + r.val)) h := by
  rw [pay1_blk m c n hn, ext_of_lt _ (by omega)]
  congr 1; apply Fin.ext; show 1000 * n + (q.val * 8 + r.val) = n * (125 * 8) + (q.val * 8 + r.val); omega

/-- The running sum after the pass is the sum over the whole layer. -/
theorem lanes_sum1 : lanes (sum1 m c 9) = ∑ p, pairs (X1 (args m c)) p := by
  rw [lanes_run (N := 10) 125 (sum1 m c) (ext (X1 (args m c))) ?_ ?_ 9 (by decide)]
  · exact sum_ext (by decide) _ id
  · intro r h
    rw [sum1, pay5_at]
    refine Finset.sum_congr rfl fun q _ => ?_
    rw [pay1_blk_ext m c 0 (by decide), Nat.zero_mul, Nat.zero_add]
  · intro n hn r h
    rw [sum1, pay7_at]
    congr 1
    exact Finset.sum_congr rfl fun q _ => pay1_blk_ext m c (n + 1) hn q r h

/-- The running sum of squares after the pass. -/
theorem lanes_sq1 : lanes (sq1 m c 9) = ∑ p, pairs (X1 (args m c)) p * pairs (X1 (args m c)) p := by
  rw [lanes_run (N := 10) 125 (sq1 m c) (fun i h => ext (X1 (args m c)) i h * ext (X1 (args m c)) i h) ?_ ?_ 9 (by decide)]
  · exact sum_ext (by decide) _ fun z => z * z
  · intro r h
    rw [sq1, pay6_at]
    refine Finset.sum_congr rfl fun q _ => ?_
    rw [pay1_blk_ext m c 0 (by decide), Nat.zero_mul, Nat.zero_add]
  · intro n hn r h
    rw [sq1, pay8_at]
    refine congrArg (sq1 m c n (ix2 r h) + ·) (Finset.sum_congr rfl fun q _ => ?_)
    rw [pay1_blk_ext m c (n + 1) hn]

/-! ## The second pass -/

/-- Row `r` of block `n` of two thousand rows, of an array stored in blocks of a thousand. -/
theorem cut_glue1 (f : ℕ → Vec Ideal S1000x128 .f32) (X : Fin 10000 → Fin 128 → EReal)
    (hf : ∀ n (hn : n < 10) (r : Fin 1000) h, f n (ix2 r h) = X ⟨1000 * n + r.val, by omega⟩ h)
    (n : ℕ) (hn : n < 5) (r : Fin 2000) (h : Fin 128) :
    cut2 (glue1 f) n (ix2 r h) = X ⟨2000 * n + r.val, by omega⟩ h := by
  show f ((2000 * n + r.val) % 10000 / 1000) (ix2 (⟨(2000 * n + r.val) % 10000 % 1000, Nat.mod_lt _ (by decide)⟩ : Fin 1000) h) = _
  rw [hf _ (by omega)]
  congr 1; apply Fin.ext
  show 1000 * ((2000 * n + r.val) % 10000 / 1000) + (2000 * n + r.val) % 10000 % 1000 = 2000 * n + r.val
  omega

/-- The same of an array stored in blocks of two thousand. -/
theorem cut_glue2 (f : ℕ → Vec Ideal S2000x128 .f32) (X : Fin 10000 → Fin 128 → EReal)
    (hf : ∀ n (hn : n < 5) (r : Fin 2000) h, f n (ix2 r h) = X ⟨2000 * n + r.val, by omega⟩ h)
    (n : ℕ) (hn : n < 5) (r : Fin 2000) (h : Fin 128) :
    cut2 (glue2 f) n (ix2 r h) = X ⟨2000 * n + r.val, by omega⟩ h := by
  show f ((2000 * n + r.val) % 10000 / 2000) (ix2 (⟨(2000 * n + r.val) % 10000 % 2000, Nat.mod_lt _ (by decide)⟩ : Fin 2000) h) = _
  rw [hf _ (by omega)]
  congr 1; apply Fin.ext
  show 2000 * ((2000 * n + r.val) % 10000 / 2000) + (2000 * n + r.val) % 10000 % 2000 = 2000 * n + r.val
  omega

/-- The two halves of the second layer add up to it. -/
theorem halves (n : ℕ) (hn : n < 5) (r : Fin 2000) (h : Fin 128) :
    own2 m c n (ix2 r h) + nbr2 m c n (ix2 r h) = X2 bnK var1 (args m c) ⟨2000 * n + r.val, by omega⟩ h := by
  unfold own2 nbr2
  rw [pay22_at, pay23_at, lanes_sum1, lanes_sq1, bg1_at, bb1_at]
  simp only [cut_glue1 _ _ (x1blk_at m c) n hn, cut_glue1 _ _ (f2blk_at m c) n hn, bW2x_at, bW2n_at]
  rfl

/-- The second layer as stored, at a row of a block. -/
theorem x2blk_at (n : ℕ) (hn : n < 5) (r : Fin 2000) (h : Fin 128) :
    x2blk m c n (ix2 r h) = X2 bnK var1 (args m c) ⟨2000 * n + r.val, by omega⟩ h := by
  unfold x2blk
  rw [pay10_at, halves m c n hn]

/-- A row of a block of two thousand, its two halves added, counted among all the rows. -/
theorem halves_ext (n : ℕ) (hn : n < 5) (q : Fin 250) (r : Fin 8) (h : Fin 128) :
    own2 m c n (ix2 (row8' q r) h) + nbr2 m c n (ix2 (row8' q r) h)
      = ext (X2 bnK var1 (args m c)) (n * (250 * 8) + (q.val * 8 + r.val)) h := by
  rw [halves m c n hn, ext_of_lt _ (by omega)]
  congr 1; apply Fin.ext; show 2000 * n + (q.val * 8 + r.val) = n * (250 * 8) + (q.val * 8 + r.val); omega

/-- The running sum after the pass is the sum over the whole layer. -/
theorem lanes_sum2 : lanes (sum2 m c 4) = ∑ p, pairs (X2 bnK var1 (args m c)) p := by
  rw [lanes_run (N := 5) 250 (sum2 m c) (ext (X2 bnK var1 (args m c))) ?_ ?_ 4 (by decide)]
  · exact sum_ext (by decide) _ id
  · intro r h
    rw [sum2, pay13_at]
    refine Finset.sum_congr rfl fun q _ => ?_
    rw [halves_ext m c 0 (by decide), Nat.zero_mul, Nat.zero_add]
  · intro n hn r h
    rw [sum2, pay15_at]
    congr 1
    exact Finset.sum_congr rfl fun q _ => halves_ext m c (n + 1) hn q r h

/-- The running sum of squares after the pass. -/
theorem lanes_sq2 : lanes (sq2 m c 4) = ∑ p, pairs (X2 bnK var1 (args m c)) p * pairs (X2 bnK var1 (args m c)) p := by
  rw [lanes_run (N := 5) 250 (sq2 m c) (fun i h => ext (X2 bnK var1 (args m c)) i h * ext (X2 bnK var1 (args m c)) i h) ?_ ?_ 4 (by decide)]
  · exact sum_ext (by decide) _ fun z => z * z
  · intro r h
    rw [sq2, pay14_at]
    refine Finset.sum_congr rfl fun q _ => ?_
    rw [halves_ext m c 0 (by decide), Nat.zero_mul, Nat.zero_add]
  · intro n hn r h
    rw [sq2, pay16_at]
    refine congrArg (sq2 m c n (ix2 r h) + ·) (Finset.sum_congr rfl fun q _ => ?_)
    rw [halves_ext m c (n + 1) hn]

/-! ## The last pass -/

/-- Row `r` of block `n` of the result. -/
theorem outblk_at (n : ℕ) (hn : n < 5) (r : Fin 2000) (h : Fin 40) :
    outblk m c n (ix2 r h) = scores bnK var1 (args m c) ⟨2000 * n + r.val, by omega⟩ h := by
  unfold outblk
  rw [pay17_at, pay24_at, lanes_sum2, lanes_sq2, bg2_at, bb2_at, bBc_at]
  simp only [cut_glue2 _ _ (x2blk_at m c) n hn, bWc_at]
  rfl

end Cert.Proof.Ideal
-- ==== Proof.Value.Array.lean ====
module

public import proofs.«01_k».proof.Proof.Ideal.Run
public import proofs.«01_k».proof.Proof.Value.Chain
public import Idealize.ShloMosaic.Lib.Pipeline.ValueKit.Geometry

/-! The kernel's result array after the run: the class scores. -/

@[expose] public section

noncomputable section

namespace Cert.Proof.Ideal

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

/-- The class scores as an array. -/
def result (c : Dev nD) : Vec Ideal S10000x40 .f32 := fun idx => scores bnK var1 (args m c) (idx 0) (idx 1)

/-- The result is written back at the last five points only, -/
theorem flush12 (t : Fin cfg0.N) : (cfg0.win 12).flush t = true → 15 ≤ t.val := by revert t; decide +kernel
/-- block by block. -/
theorem idx12 (t : Fin cfg0.N) : (cfg0.win 12).index t 0 = t.val - 15 ∧ (cfg0.win 12).index t 1 = 0 := by revert t; decide +kernel

/-- The result array ends holding the class scores. -/
theorem out_eq (c : Dev nD) : (dats m 0 c).arrAt 12 cfg0.N = result m c := by
  refine (dats m 0 c).arrAt_eq_of_covers 12 _ (by decide +kernel) fun t hf y => ?_
  have ht := flush12 t hf
  have ht' : t.val < 20 := lt_of_lt_of_eq t.isLt N20
  blk_simp
  rw [after0_12]
  have key : ∀ y : S2000x40.Idx, outblk m c (t.val - 15) y = scores bnK var1 (args m c) ⟨2000 * (t.val - 15) + (y 0).val, by have : (y 0).val < 2000 := (y 0).isLt; omega⟩ (y 1) := by
    intro y
    have e := outblk_at m c (t.val - 15) (by omega) (y 0) (y 1)
    rw [← e]; congr 1; funext a
    match a with
    | ⟨0, _⟩ => rfl
    | ⟨1, _⟩ => rfl
  rw [key]
  unfold result
  congr 1
  · apply Fin.ext
    show 2000 * (t.val - 15) + (y 0).val = _
    blk_simp [idx12 t]
    omega
  · apply Fin.ext
    blk_simp [idx12 t]

end Cert.Proof.Ideal
-- ==== Proof.Value.Ref.lean ====
module

public import proofs.«01_k».proof.Proof.Gen.ReferenceIdeal.Run
public import proofs.«01_k».proof.Proof.Value.Spec
public import Idealize.ShloMosaic.Lib.Pointwise
public import Idealize.ShloMosaic.Lib.IdealHost

/-! The reference's result, cut into its layers. -/

@[expose] public section

noncomputable section

namespace Cert.Proof.Reference

open Cert.ReferenceIdeal Cert.ReferenceIdeal.Gen
open Idealize.ShloMosaic Idealize.ShloMosaic.TcCoe

/-- A layer before normalisation: the rows times their weights plus the neighbours' mean times theirs. -/
def first (a0 : FVec Ideal S10000x1x256 .f32) (a1 : FVec Ideal S10000x16x1x256 .f32) (a2 a3 : FVec Ideal S128x256 .f32) : FVec Ideal S10000x1x128 .f32 :=
  addf (Host.dotGeneral dot_S10000x1x256_S256x128_S10000x1x128_2_0_01_1_n_n none a0 (transpose S256x128 [1, 0] a2 transposes_S128x256_S256x128_1_0)) (Host.dotGeneral dot_S10000x1x256_S256x128_S10000x1x128_2_0_01_1_n_n none (Host.divf (Host.reduceAdd a1 (constant S_ .f32 0x00000000#32) reducesTo_S10000x16x1x256_S10000x1x256_d1 h_S_) (broadcastInDim S10000x1x256 ![] bcast_S_S10000x1x256 (constant S_ .f32 0x41800000#32))) (transpose S256x128 [1, 0] a3 transposes_S128x256_S256x128_1_0))

/-- The neighbours' product. -/
def near (a1 : FVec Ideal S10000x16x1x256 .f32) (a2 : FVec Ideal S128x256 .f32) : FVec Ideal S10000x16x1x128 .f32 :=
  Host.dotGeneral dot_S10000x16x1x256_S256x128_S10000x16x1x128_3_0_012_1_n_n none a1 (transpose S256x128 [1, 0] a2 transposes_S128x256_S256x128_1_0)

/-- The normalisation over the whole batch, the positive part kept. -/
def batch (z : FVec Ideal S10000x1x128 .f32) (g b : FVec Ideal S1 .f32) : FVec Ideal S10000x1x128 .f32 :=
  maximumf (addf (mulf (Host.divf (subf z (broadcastInDim S10000x1x128 ![0, 1, 2] bcast_S1x1x1_S10000x1x128_0_1_2 (Host.divf (broadcastInDim S1x1x1 ![1] bcast_S1_S1x1x1_1 (Host.reduceAdd z (constant S_ .f32 0x00000000#32) reducesTo_S10000x1x128_S1_d0_2 h_S_)) (broadcastInDim S1x1x1 ![] bcast_S_S1x1x1 (constant S_ .f32 0x499C4000#32))))) (broadcastInDim S10000x1x128 ![0, 1, 2] bcast_S1x1x1_S10000x1x128_0_1_2 (Host.sqrt (addf (select (broadcastInDim S1x1x1 ![] bcast_S_S1x1x1 (cmpf .ogt (subf (constant S_ .f32 0x499C4000#32) (sitofp .f32 (constantI S_ 32 0#32)) : FVec Ideal S_ .f32) (constant S_ .f32 0x00000000#32))) (Host.divf (broadcastInDim S1x1x1 ![1] bcast_S1_S1x1x1_1 (Host.reduceAdd (mulf (subf z (broadcastInDim S10000x1x128 ![0, 1, 2] bcast_S1x1x1_S10000x1x128_0_1_2 (Host.divf (broadcastInDim S1x1x1 ![1] bcast_S1_S1x1x1_1 (Host.reduceAdd z (constant S_ .f32 0x00000000#32) reducesTo_S10000x1x128_S1_d0_2 h_S_)) (broadcastInDim S1x1x1 ![] bcast_S_S1x1x1 (constant S_ .f32 0x499C4000#32))))) (subf z (broadcastInDim S10000x1x128 ![0, 1, 2] bcast_S1x1x1_S10000x1x128_0_1_2 (Host.divf (broadcastInDim S1x1x1 ![1] bcast_S1_S1x1x1_1 (Host.reduceAdd z (constant S_ .f32 0x00000000#32) reducesTo_S10000x1x128_S1_d0_2 h_S_)) (broadcastInDim S1x1x1 ![] bcast_S_S1x1x1 (constant S_ .f32 0x499C4000#32)))))) (constant S_ .f32 0x00000000#32) reducesTo_S10000x1x128_S1_d0_2 h_S_)) (broadcastInDim S1x1x1 ![] bcast_S_S1x1x1 (subf (constant S_ .f32 0x499C4000#32) (sitofp .f32 (constantI S_ 32 0#32))))) (broadcastInDim S1x1x1 ![] bcast_S_S1x1x1 (id (constant S_ .f32 0x7FC00000#32)))) (broadcastInDim S1x1x1 ![] bcast_S_S1x1x1 (constant S_ .f32 0x3727C5AC#32)))))) (broadcastInDim S10000x1x128 ![] bcast_S_S10000x1x128 (shapeCast _ g shapeCasts_S1_S_))) (broadcastInDim S10000x1x128 ![] bcast_S_S10000x1x128 (shapeCast _ b shapeCasts_S1_S_))) (broadcastInDim S10000x1x128 ![] bcast_S_S10000x1x128 (constant S_ .f32 0x00000000#32))

/-- The normalisation of each node's neighbours, the positive part kept. -/
def batchN (z : FVec Ideal S10000x16x1x128 .f32) (g b : FVec Ideal S1 .f32) : FVec Ideal S10000x16x1x128 .f32 :=
  maximumf (addf (mulf (Host.divf (subf z (broadcastInDim S10000x16x1x128 ![0, 1, 2, 3] bcast_S10000x1x1x1_S10000x16x1x128_0_1_2_3 (Host.divf (broadcastInDim S10000x1x1x1 ![0, 2] bcast_S10000x1_S10000x1x1x1_0_2 (Host.reduceAdd z (constant S_ .f32 0x00000000#32) reducesTo_S10000x16x1x128_S10000x1_d1_3 h_S_)) (broadcastInDim S10000x1x1x1 ![] bcast_S_S10000x1x1x1 (constant S_ .f32 0x45000000#32))))) (broadcastInDim S10000x16x1x128 ![0, 1, 2, 3] bcast_S10000x1x1x1_S10000x16x1x128_0_1_2_3 (Host.sqrt (addf (select (broadcastInDim S10000x1x1x1 ![] bcast_S_S10000x1x1x1 (cmpf .ogt (subf (constant S_ .f32 0x45000000#32) (sitofp .f32 (constantI S_ 32 0#32)) : FVec Ideal S_ .f32) (constant S_ .f32 0x00000000#32))) (Host.divf (broadcastInDim S10000x1x1x1 ![0, 2] bcast_S10000x1_S10000x1x1x1_0_2 (Host.reduceAdd (mulf (subf z (broadcastInDim S10000x16x1x128 ![0, 1, 2, 3] bcast_S10000x1x1x1_S10000x16x1x128_0_1_2_3 (Host.divf (broadcastInDim S10000x1x1x1 ![0, 2] bcast_S10000x1_S10000x1x1x1_0_2 (Host.reduceAdd z (constant S_ .f32 0x00000000#32) reducesTo_S10000x16x1x128_S10000x1_d1_3 h_S_)) (broadcastInDim S10000x1x1x1 ![] bcast_S_S10000x1x1x1 (constant S_ .f32 0x45000000#32))))) (subf z (broadcastInDim S10000x16x1x128 ![0, 1, 2, 3] bcast_S10000x1x1x1_S10000x16x1x128_0_1_2_3 (Host.divf (broadcastInDim S10000x1x1x1 ![0, 2] bcast_S10000x1_S10000x1x1x1_0_2 (Host.reduceAdd z (constant S_ .f32 0x00000000#32) reducesTo_S10000x16x1x128_S10000x1_d1_3 h_S_)) (broadcastInDim S10000x1x1x1 ![] bcast_S_S10000x1x1x1 (constant S_ .f32 0x45000000#32)))))) (constant S_ .f32 0x00000000#32) reducesTo_S10000x16x1x128_S10000x1_d1_3 h_S_)) (broadcastInDim S10000x1x1x1 ![] bcast_S_S10000x1x1x1 (subf (constant S_ .f32 0x45000000#32) (sitofp .f32 (constantI S_ 32 0#32))))) (broadcastInDim S10000x1x1x1 ![] bcast_S_S10000x1x1x1 (id (constant S_ .f32 0x7FC00000#32)))) (broadcastInDim S10000x1x1x1 ![] bcast_S_S10000x1x1x1 (constant S_ .f32 0x3727C5AC#32)))))) (broadcastInDim S10000x16x1x128 ![] bcast_S_S10000x16x1x128 (shapeCast _ g shapeCasts_S1_S_))) (broadcastInDim S10000x16x1x128 ![] bcast_S_S10000x16x1x128 (shapeCast _ b shapeCasts_S1_S_))) (broadcastInDim S10000x16x1x128 ![] bcast_S_S10000x16x1x128 (constant S_ .f32 0x00000000#32))

/-- The second layer before normalisation. -/
def second (y : FVec Ideal S10000x1x128 .f32) (n : FVec Ideal S10000x16x1x128 .f32) (a4 a5 : FVec Ideal S128x128 .f32) : FVec Ideal S10000x1x128 .f32 :=
  addf (Host.dotGeneral dot_S10000x1x128_S128x128_S10000x1x128_2_0_01_1_n_n none y (transpose S128x128 [1, 0] a4 transposes_S128x128_S128x128_1_0)) (Host.dotGeneral dot_S10000x1x128_S128x128_S10000x1x128_2_0_01_1_n_n none (Host.divf (Host.reduceAdd n (constant S_ .f32 0x00000000#32) reducesTo_S10000x16x1x128_S10000x1x128_d1 h_S_) (broadcastInDim S10000x1x128 ![] bcast_S_S10000x1x128 (constant S_ .f32 0x41800000#32))) (transpose S128x128 [1, 0] a5 transposes_S128x128_S128x128_1_0))

/-- The class scores. -/
def last (y : FVec Ideal S10000x1x128 .f32) (a10 : FVec Ideal S40x128 .f32) (a11 : FVec Ideal S40 .f32) : FVec Ideal S10000x40 .f32 :=
  addf (Host.dotGeneral dot_S10000x128_S128x40_S10000x40_1_0_0_1_n_n none (shapeCast _ y shapeCasts_S10000x1x128_S10000x128) (transpose S128x40 [1, 0] a10 transposes_S40x128_S128x40_1_0)) (broadcastInDim S10000x40 ![0, 1] bcast_S1x40_S10000x40_0_1 (broadcastInDim S1x40 ![1] bcast_S40_S1x40_1 a11))

variable (m : (ℓ : Loc nD τ sig) → Buf (Elt Ideal) ℓ)

/-- The reference's result is these, composed. -/
theorem res_eq (c : Dev nD) : Cert.ReferenceIdeal.Value.res_main_v80 (F := Ideal) m c
    = last (batch (second (batch (first (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg6)) (m ((c.tc : Thread nD τ).loc main_arg7))) (batchN (near (m ((c.tc : Thread nD τ).loc main_arg1)) (m ((c.tc : Thread nD τ).loc main_arg2))) (m ((c.tc : Thread nD τ).loc main_arg6)) (m ((c.tc : Thread nD τ).loc main_arg7))) (m ((c.tc : Thread nD τ).loc main_arg4)) (m ((c.tc : Thread nD τ).loc main_arg5))) (m ((c.tc : Thread nD τ).loc main_arg8)) (m ((c.tc : Thread nD τ).loc main_arg9))) (m ((c.tc : Thread nD τ).loc main_arg10)) (m ((c.tc : Thread nD τ).loc main_arg11)) := by
  unfold Cert.ReferenceIdeal.Value.res_main_v80 last batch second batchN near first
  rfl

end Cert.Proof.Reference
-- ==== Proof.Value.RefAt.lean ====
module

public import proofs.«01_k».proof.Proof.Value.Ref

/-! The reference's layers, read at one index. -/

@[expose] public section

noncomputable section

namespace Cert.Proof.Reference

open Cert.ReferenceIdeal Cert.ReferenceIdeal.Gen
open Idealize.ShloMosaic Idealize.ShloMosaic.TcCoe

/-- The first layer before normalising. -/
theorem first_at (a0 : FVec Ideal S10000x1x256 .f32) (a1 : FVec Ideal S10000x16x1x256 .f32) (a2 a3 : FVec Ideal S128x256 .f32) (i : Fin 10000) (h : Fin 128) :
    first a0 a1 a2 a3 (ix3 i 0 h) = lin (fun k => a0 (ix3 i 0 k)) (fun k => a2 (ix2 h k))
      + lin (fun k => Ideal.div (∑ d : Fin 16, a1 (ix4 i d 0 k)) c16) (fun k => a3 (ix2 h k)) := by
  pointwise [first]
  rfl

/-- One neighbour's product. -/
theorem near_at (a1 : FVec Ideal S10000x16x1x256 .f32) (a2 : FVec Ideal S128x256 .f32) (i : Fin 10000) (d : Fin 16) (h : Fin 128) :
    near a1 a2 (ix4 i d 0 h) = lin (fun k => a1 (ix4 i d 0 k)) (fun k => a2 (ix2 h k)) := by
  pointwise [near]
  rfl

/-- The second layer before normalising. -/
theorem second_at (y : FVec Ideal S10000x1x128 .f32) (n : FVec Ideal S10000x16x1x128 .f32) (a4 a5 : FVec Ideal S128x128 .f32) (i : Fin 10000) (h : Fin 128) :
    second y n a4 a5 (ix3 i 0 h) = lin (fun k => y (ix3 i 0 k)) (fun k => a4 (ix2 h k))
      + lin (fun k => Ideal.div (∑ d : Fin 16, n (ix4 i d 0 k)) c16) (fun k => a5 (ix2 h k)) := by
  pointwise [second]
  rfl

/-- The class scores from the normalised second layer. -/
theorem last_at (y : FVec Ideal S10000x1x128 .f32) (a10 : FVec Ideal S40x128 .f32) (a11 : FVec Ideal S40 .f32) (i : Fin 10000) (h : Fin 40) :
    last y a10 a11 (ix2 i h) = lin (fun k => y (ix3 i 0 k)) (fun k => a10 (ix2 h k)) + a11 (ix1 h) := by
  pointwise [last]
  rfl

/-! ## The two normalisations -/

/-- A sum of a layer over its rows and columns. -/
theorem sum_rows_cols (v : FVec Ideal S10000x1x128 .f32) (z : EReal) :
    Ideal.hostReduceAdd reducesTo_S10000x1x128_S1_d0_2 v z (ix1 0) = z + ∑ p : Fin 10000 × Fin 128, v (ix3 p.1 0 p.2) := by
  refine congrArg (z + ·) (Finset.sum_filter_eq_sum_of_fiber _ (fun p : Fin 10000 × Fin 128 => (ix3 p.1 0 p.2 : S10000x1x128.Idx))
    (fun _ _ e => Prod.ext (congrFun e 0) (congrFun e 2)) (fun i => ⟨fun _ => ⟨(i 0, i 2), ?_⟩, fun _ => ?_⟩) v)
  · funext a
    match a with
    | ⟨0, _⟩ => rfl
    | ⟨1, _⟩ => exact (Subsingleton.elim (α := Fin 1) _ _)
    | ⟨2, _⟩ => rfl
  · funext a
    match a with
    | ⟨0, _⟩ => exact (Subsingleton.elim (α := Fin 1) _ _)

/-- A sum of one node's neighbours over the neighbours and columns. -/
theorem sum_near (v : FVec Ideal S10000x16x1x128 .f32) (z : EReal) (i : Fin 10000) :
    Ideal.hostReduceAdd reducesTo_S10000x16x1x128_S10000x1_d1_3 v z (ix2 i 0) = z + ∑ p : Fin 16 × Fin 128, v (ix4 i p.1 0 p.2) := by
  refine congrArg (z + ·) (Finset.sum_filter_eq_sum_of_fiber _ (fun p : Fin 16 × Fin 128 => (ix4 i p.1 0 p.2 : S10000x16x1x128.Idx))
    (fun _ _ e => Prod.ext (congrFun e 1) (congrFun e 3)) (fun j => ⟨fun e => ⟨(j 1, j 3), ?_⟩, ?_⟩) v)
  · funext a
    match a with
    | ⟨0, _⟩ => exact Fin.ext (congrArg Fin.val (congrFun e ⟨0, by decide⟩)).symm
    | ⟨1, _⟩ => rfl
    | ⟨2, _⟩ => exact (Subsingleton.elim (α := Fin 1) _ _)
    | ⟨3, _⟩ => rfl
  · rintro ⟨k, rfl⟩
    funext b
    match b with
    | ⟨0, _⟩ => rfl
    | ⟨1, _⟩ => exact (Subsingleton.elim (α := Fin 1) _ _)

/-- The host's zero. -/
theorem sitofp_zero : (FloatOps.sitofp .f32 (0#32 : BitVec 32) : Ideal .f32) = (0 : EReal) := by
  show (((0#32 : BitVec 32).toInt : ℝ) : EReal) = 0
  simp

/-- The number of entries of a layer is positive. -/
theorem cNH_pos : 0 < cNH := by rw [cNH_eq]; exact_mod_cast (by norm_num : (0 : ℝ) < 1280000)
/-- The number of entries of one node's neighbours is positive. -/
theorem c2048_pos : 0 < c2048 := by rw [c2048_eq]; exact_mod_cast (by norm_num : (0 : ℝ) < 2048)

/-- Normalising over the whole batch. -/
theorem batch_at (z : FVec Ideal S10000x1x128 .f32) (g b : FVec Ideal S1 .f32) (f : Fin 10000 → Fin 128 → EReal)
    (hf : ∀ i h, z (ix3 i 0 h) = f i h) (i : Fin 10000) (h : Fin 128) :
    batch z g b (ix3 i 0 h) = bnR eps (mu cNH (pairs f)) (var2 cNH (pairs f)) (g (ix1 0)) (b (ix1 0)) (f i h) := by
  have e : Ideal.ofBits .f32 0x499C4000#32 = cNH := rfl
  pointwise [batch, sum_rows_cols, sitofp_zero, e, sub_zero, if_pos cNH_pos, hf]
  rfl

/-- Normalising one node's neighbours. -/
theorem batchN_at (z : FVec Ideal S10000x16x1x128 .f32) (g b : FVec Ideal S1 .f32) (i : Fin 10000) (d : Fin 16) (h : Fin 128)
   (f : Fin 16 × Fin 128 → EReal) (hf : ∀ d h, z (ix4 i d 0 h) = f (d, h)) :
    batchN z g b (ix4 i d 0 h) = bnR eps (mu c2048 f) (var2 c2048 f) (g (ix1 0)) (b (ix1 0)) (f (d, h)) := by
  have e : Ideal.ofBits .f32 0x45000000#32 = c2048 := rfl
  pointwise [batchN, sum_near, sitofp_zero, e, sub_zero, if_pos c2048_pos, hf]
  rfl

/-! ## The class scores -/

variable (m : (ℓ : Loc nD τ sig) → Buf (Elt Ideal) ℓ)

/-- Device `c`'s twelve arguments by their coordinates. -/
def args (c : Dev nD) : Args where
  x i k := m ((c.tc : Thread nD τ).loc main_arg0) (ix3 i 0 k)
  nb i d k := m ((c.tc : Thread nD τ).loc main_arg1) (ix4 i d 0 k)
  w1x h k := m ((c.tc : Thread nD τ).loc main_arg2) (ix2 h k)
  w1n h k := m ((c.tc : Thread nD τ).loc main_arg3) (ix2 h k)
  w2x h k := m ((c.tc : Thread nD τ).loc main_arg4) (ix2 h k)
  w2n h k := m ((c.tc : Thread nD τ).loc main_arg5) (ix2 h k)
  g1 := m ((c.tc : Thread nD τ).loc main_arg6) (ix1 0)
  b1 := m ((c.tc : Thread nD τ).loc main_arg7) (ix1 0)
  g2 := m ((c.tc : Thread nD τ).loc main_arg8) (ix1 0)
  b2 := m ((c.tc : Thread nD τ).loc main_arg9) (ix1 0)
  wc h k := m ((c.tc : Thread nD τ).loc main_arg10) (ix2 h k)
  bc h := m ((c.tc : Thread nD τ).loc main_arg11) (ix1 h)

/-- The reference's result at an index: the class scores with two passes and a quotient. -/
theorem res_at (c : Dev nD) (i : Fin 10000) (h : Fin 40) :
    Cert.ReferenceIdeal.Value.res_main_v80 (F := Ideal) m c (ix2 i h) = scores bnR var2 (args m c) i h := by
  rw [res_eq, last_at]
  have h1 : ∀ i h, first (m ((c.tc : Thread nD τ).loc main_arg0)) (m ((c.tc : Thread nD τ).loc main_arg1)) (m ((c.tc : Thread nD τ).loc main_arg2))
      (m ((c.tc : Thread nD τ).loc main_arg3)) (ix3 i 0 h) = X1 (args m c) i h := fun i h => first_at _ _ _ _ i h
  have hm : ∀ i d h, near (m ((c.tc : Thread nD τ).loc main_arg1)) (m ((c.tc : Thread nD τ).loc main_arg2)) (ix4 i d 0 h) = M1 (args m c) i (d, h) :=
    fun i d h => near_at _ _ i d h
  have h2 : ∀ i h, second (batch (first (m ((c.tc : Thread nD τ).loc main_arg0)) (m ((c.tc : Thread nD τ).loc main_arg1)) (m ((c.tc : Thread nD τ).loc main_arg2)) (m ((c.tc : Thread nD τ).loc main_arg3)))
        (m ((c.tc : Thread nD τ).loc main_arg6)) (m ((c.tc : Thread nD τ).loc main_arg7)))
      (batchN (near (m ((c.tc : Thread nD τ).loc main_arg1)) (m ((c.tc : Thread nD τ).loc main_arg2))) (m ((c.tc : Thread nD τ).loc main_arg6)) (m ((c.tc : Thread nD τ).loc main_arg7)))
      (m ((c.tc : Thread nD τ).loc main_arg4)) (m ((c.tc : Thread nD τ).loc main_arg5)) (ix3 i 0 h) = X2 bnR var2 (args m c) i h := by
    intro i h
    rw [second_at]
    simp only [batch_at _ _ _ _ h1]
    unfold X2 F2
    exact congrArg₂ (· + ·) rfl (congrArg (lin · _) (funext fun k => congrArg (Ideal.div · c16)
      (Finset.sum_congr rfl fun d _ => batchN_at _ _ _ i d k (M1 (args m c) i) (hm i))))
  simp only [batch_at _ _ _ _ h2]
  rfl

end Cert.Proof.Reference
-- ==== Proof.Value.Pre.lean ====
module

public import proofs.«01_k».proof.Defs
public import proofs.«01_k».proof.Proof.Value.Blocks
public import Idealize.ShloMosaic.Lib.Tactic

/-! What the precondition says: eight of the arguments are real numbers throughout. -/

@[expose] public section

noncomputable section

namespace Cert.Proof

open Idealize.ShloMosaic Idealize.SL.Sem

/-- The shapes the precondition's comparisons broadcast to. -/
theorem preFacts : Cert.Pre_finite_args.Facts :=
  ⟨by decide, by decide, by decide, by decide, by decide⟩

/-- The pattern compared with is the one of infinity. -/
theorem ofBits_inf : Ideal.ofBits .f32 0x7F800000#32 = ⊤ := by
  simp [Ideal.ofBits, Ideal.ieee]

/-- An extended real of absolute value below infinity is a real number. -/
theorem IsFin.of_cmp {x : EReal} (h : Ideal.cmp .olt (Max.max x (-x)) ⊤ = 1#1) : IsFin x := by
  have hlt : Max.max x (-x) < ⊤ := by
    by_contra hn
    simp [Ideal.cmp, hn] at h
  refine IsFin.of_ne ?_ ?_
  · rintro rfl; simp at hlt
  · rintro rfl; simp at hlt

/-- A whole array compared below infinity in absolute value holds real numbers. -/
theorem IsFin.of_all {s : Shape} {hb : (⟨0, ![]⟩ : Shape).BroadcastsInDim s ![]} {x : FVec Ideal s .f32}
    (h : cmpf .olt (Host.absf x) (broadcastInDim s ![] hb (constant ⟨0, ![]⟩ .f32 0x7F800000#32 : FVec Ideal ⟨0, ![]⟩ .f32)) = fun _ => 1#1) (i : s.Idx) :
    IsFin (x i) :=
  IsFin.of_cmp (by rw [← ofBits_inf]; exact congrFun h i)

/-- Under the precondition the kernel's first eight arguments are real numbers. -/
theorem args_fin (m : (ℓ : Loc Cert.KernelIdeal.nD Cert.KernelIdeal.τ Cert.KernelIdeal.sig) → Buf (Elt Ideal) ℓ)
    (hp : Cert.Pre_KernelIdeal_finite_args (hPre_finite_args := preFacts) m) (c : Dev Cert.KernelIdeal.nD) :
    (Cert.Proof.Ideal.args m c).Fin := by
  obtain ⟨h0, h1, h2, h3, h4, h5, h6, h7⟩ := hp c
  exact ⟨fun i k => IsFin.of_all h0 (ix3 i 0 k), fun i d k => IsFin.of_all h1 (ix4 i d 0 k), fun h k => IsFin.of_all h2 (ix2 h k),
    fun h k => IsFin.of_all h3 (ix2 h k), fun h k => IsFin.of_all h4 (ix2 h k), fun h k => IsFin.of_all h5 (ix2 h k),
    IsFin.of_all h6 (ix1 0), IsFin.of_all h7 (ix1 0)⟩

end Cert.Proof
-- ==== Proof.Value.Equal.lean ====
module

public import proofs.«01_k».proof.Defs
public import proofs.«01_k».proof.Proof.Gen.ReferenceIdeal.Run
public import proofs.«01_k».proof.Proof.Value.Array
public import proofs.«01_k».proof.Proof.Value.RefAt
public import proofs.«01_k».proof.Proof.Value.Pre
public import Idealize.ShloMosaic.Lib.Claim

/-! The two programs end holding the same class scores. -/

@[expose] public section

noncomputable section

namespace Cert.Proof

open Idealize.ShloMosaic Idealize.SL.Sem

/-- From arguments that agree the two sides read the same numbers. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    : Cert.Proof.Reference.args m' c = Cert.Proof.Ideal.args m c := by
  unfold Cert.Proof.Reference.args Cert.Proof.Ideal.args
  rw [h0, h1, h2, h3, h4, h5, h6, h7, h8, h9, h10, h11]

/-- The reference's result array is the kernel's, the arguments being real numbers. -/
theorem res_eq_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (ha : (Cert.Proof.Ideal.args m c).Fin) (he : Cert.Proof.Reference.args m' c = Cert.Proof.Ideal.args m c) :
    Cert.ReferenceIdeal.Value.res_main_v80 (F := Ideal) m' c = Cert.Proof.Ideal.result m c := by
  have key : ∀ idx : Cert.ReferenceIdeal.S10000x40.Idx, (Cert.ReferenceIdeal.Value.res_main_v80 (F := Ideal) m' c : Vec Ideal Cert.ReferenceIdeal.S10000x40 .f32) idx
      = scores bnK var1 (Cert.Proof.Ideal.args m c) (idx 0) (idx 1) := by
    intro idx
    have e : idx = ix2 (idx 0) (idx 1) := by
      funext a
      match a with
      | ⟨0, _⟩ => rfl
      | ⟨1, _⟩ => rfl
    have h := Cert.Proof.Reference.res_at m' c (idx 0) (idx 1)
    rw [he, ← scores_eq ha] at h
    exact (congrArg (Cert.ReferenceIdeal.Value.res_main_v80 (F := Ideal) m' c : Vec Ideal Cert.ReferenceIdeal.S10000x40 .f32) e).trans h
  exact funext key

/-- The kernel runs to the class scores and keeps its arguments. -/
theorem run_result (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r =>
      ∀ c : Dev Cert.KernelIdeal.nD, r.2.mem ((c.tc : Thread Cert.KernelIdeal.nD Cert.KernelIdeal.τ).loc Cert.KernelIdeal.main_v0) = Cert.Proof.Ideal.result m c) :=
  (θ_run Cert.KernelIdeal.defs _ _).mono (fun _ h c => ((h c).1 12).trans (Cert.Proof.Ideal.out_eq m c)) (Cert.Proof.Ideal.run_main m g)

/-- Kernel and reference, over the extended reals, end with equal results. -/
theorem algebraic : Cert.algebraic_KernelIdeal_ReferenceIdeal_pre_finite_args (hKernelIdeal := Cert.KernelIdeal.Gen.facts)
    (hReferenceIdeal := Cert.ReferenceIdeal.Gen.facts) (hPre_finite_args := preFacts) := by
  intro m g m' g' hp hagree
  refine ⟨fun c => Cert.Proof.Ideal.result m c, ?_, ?_⟩
  · exact (θ_run Cert.KernelIdeal.defs _ _).mono (fun r h c => ⟨h.1 c, h.2.1 c⟩) (θ_run_and (run_result m g) (Cert.Proof.Ideal.frame m g))
  · refine (θ_run Cert.ReferenceIdeal.defs _ _).mono (fun r h c => ⟨(h c).1.trans ?_, (h c).2⟩) (Cert.ReferenceIdeal.Value.run m' g')
    obtain ⟨h0, h1, h2, h3, h4, h5, h6, h7, h8, h9, h10, h11⟩ := hagree c
    exact res_eq_result m m' c (args_fin m hp c) (args_eq m m' c h0 h1 h2 h3 h4 h5 h6 h7 h8 h9 h10 h11)

end Cert.Proof
-- ==== Proof.lean ====
module

public import proofs.«01_k».proof.Defs
public import proofs.«01_k».proof.Proof.Frames
public import proofs.«01_k».proof.Proof.Value.Equal

@[expose] public section

namespace Cert.Proof

/-- Everything claimed. The two frames under the precondition are the frames without it. -/
theorem claim : Cert.Claim :=
  ⟨Cert.Kernel.Gen.facts, Cert.KernelIdeal.Gen.facts, Cert.ReferenceIdeal.Gen.facts, preFacts,
    frame_word, frame_ideal, fun m g _ => frame_ideal m g trivial, frame_reference, fun m g _ => frame_reference m g trivial,
    trivial, algebraic⟩

end Cert.Proof
